-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_scales [hPre_normal_scales : Cert.Pre_normal_scales.Facts] (m : (ℓ : Loc Cert.KernelIdeal.nD Cert.KernelIdeal.τ Cert.KernelIdeal.sig) → Buf (Elt Ideal) ℓ) : Prop :=
  ∀ c : Dev Cert.KernelIdeal.nD,
    (Cert.Pre_normal_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_scales [hPre_normal_scales : Cert.Pre_normal_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_normal_scales [hKernelIdeal : Cert.KernelIdeal.Facts] [hPre_normal_scales : Cert.Pre_normal_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_normal_scales [hReferenceIdeal : Cert.ReferenceIdeal.Facts] [hPre_normal_scales : Cert.Pre_normal_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_normal_scales [hKernelIdeal : Cert.KernelIdeal.Facts] [hReferenceIdeal : Cert.ReferenceIdeal.Facts] [hPre_normal_scales : Cert.Pre_normal_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_normal_scales : Cert.Pre_normal_scales.Facts),
    quiescent_Kernel (hKernel := hKernel)
    ∧ quiescent_KernelIdeal (hKernelIdeal := hKernelIdeal)
    ∧ quiescent_KernelIdeal_pre_normal_scales (hKernelIdeal := hKernelIdeal) (hPre_normal_scales := hPre_normal_scales)
    ∧ quiescent_ReferenceIdeal (hReferenceIdeal := hReferenceIdeal)
    ∧ quiescent_ReferenceIdeal_pre_normal_scales (hReferenceIdeal := hReferenceIdeal) (hPre_normal_scales := hPre_normal_scales)
    ∧ preserves_Kernel_KernelIdeal
    ∧ algebraic_KernelIdeal_ReferenceIdeal_pre_normal_scales (hKernelIdeal := hKernelIdeal) (hReferenceIdeal := hReferenceIdeal) (hPre_normal_scales := hPre_normal_scales)
-- ==== Pre_normal_scales.lean ====
abbrev S192x1x7168 : Shape := ⟨3, ![192, 1, 7168]⟩
abbrev S7168x8192 : Shape := ⟨2, ![7168, 8192]⟩
abbrev S56x64 : Shape := ⟨2, ![56, 64]⟩
abbrev S192x56x128 : Shape := ⟨3, ![192, 56, 128]⟩
abbrev S_ : Shape := ⟨0, ![]⟩
abbrev S192x56 : Shape := ⟨2, ![192, 56]⟩

class Facts : Prop where
  bitsLt_bf16_f32 : FTy.bits .bf16 < FTy.bits .f32
  shapeCasts_S192x1x7168_S192x56x128 : S192x1x7168.ShapeCasts S192x56x128
  reducesTo_S192x56x128_S192x56_d2 : S192x56x128.ReducesTo [2] S192x56
  h_S_ : 0 < S_.numel
  bcast_S_S192x56 : S_.BroadcastsInDim S192x56 (![] : Fin 0 → Fin S192x56.rank)

variable [Facts]

def fn {F : FTy → Type} [FloatOps F] (main_arg0 : FVec F S192x1x7168 .bf16) (main_arg1 : FVec F S7168x8192 .fp8e4m3) (main_arg2 : FVec F S56x64 .f32) : IVec S192x56 1 :=
  let main_v0 : FVec F S192x1x7168 .f32 := (extf .f32 · bitsLt_bf16_f32) main_arg0
  let main_v1 : FVec F S192x56x128 .f32 := shapeCast S192x56x128 main_v0 shapeCasts_S192x1x7168_S192x56x128
  let main_v2 : FVec F S192x56x128 .f32 := Host.absf main_v1
  let main_cst : FVec F S_ .f32 := constant S_ .f32 0xFF800000#32
  let main_v3 : FVec F S192x56 .f32 := (fun x v => Host.reduce FloatOps.maximumf x v reducesTo_S192x56x128_S192x56_d2 h_S_) main_v2 main_cst
  let main_cst_0 : FVec F S_ .f32 := constant S_ .f32 0x00000000#32
  let main_v4 : FVec F S192x56 .f32 := broadcastInDim S192x56 ![] bcast_S_S192x56 main_cst_0
  let main_v5 : IVec S192x56 1 := cmpf .oeq main_v3 main_v4
  let main_cst_1 : FVec F S_ .f32 := constant S_ .f32 0x04E00000#32
  let main_v6 : FVec F S192x56 .f32 := broadcastInDim S192x56 ![] bcast_S_S192x56 main_cst_1
  let main_v7 : IVec S192x56 1 := cmpf .oge main_v3 main_v6
  let main_cst_2 : FVec F S_ .f32 := constant S_ .f32 0x7F7F0000#32
  let main_v8 : FVec F S192x56 .f32 := broadcastInDim S192x56 ![] bcast_S_S192x56 main_cst_2
  let main_v9 : IVec S192x56 1 := cmpf .ole main_v3 main_v8
  let main_v10 : IVec S192x56 1 := andi main_v7 main_v9
  let main_v11 : IVec S192x56 1 := ori main_v5 main_v10
  main_v11
-- ==== Kernel.lean ====
abbrev S192x1x7168 : Shape := ⟨3, ![192, 1, 7168]⟩
abbrev S7168x8192 : Shape := ⟨2, ![7168, 8192]⟩
abbrev S56x64 : Shape := ⟨2, ![56, 64]⟩
abbrev S192x7168 : Shape := ⟨2, ![192, 7168]⟩
abbrev S192x8192 : Shape := ⟨2, ![192, 8192]⟩
abbrev S192x56 : Shape := ⟨2, ![192, 56]⟩
abbrev S7168x512 : Shape := ⟨2, ![7168, 512]⟩
abbrev S192x512 : Shape := ⟨2, ![192, 512]⟩
abbrev S56x192x128 : Shape := ⟨3, ![56, 192, 128]⟩
abbrev S192x128 : Shape := ⟨2, ![192, 128]⟩
abbrev S192 : Shape := ⟨1, ![192]⟩
abbrev S192x1 : Shape := ⟨2, ![192, 1]⟩
abbrev S1x192x128 : Shape := ⟨3, ![1, 192, 128]⟩
abbrev S96x128 : Shape := ⟨2, ![96, 128]⟩
abbrev S128x256 : Shape := ⟨2, ![128, 256]⟩
abbrev S96x256 : Shape := ⟨2, ![96, 256]⟩
abbrev S1x96x128 : Shape := ⟨3, ![1, 96, 128]⟩
abbrev S1x1 : Shape := ⟨2, ![1, 1]⟩

abbrev nBuf : Space → Nat
  | .hbm => 7
  | .vmem => 8
  | .smem => 1
  | _ => 0

abbrev bufTy : (tb : Table) → Fin (tcTables nBuf tb) → BufTy
  | .hbm, ⟨0, _⟩ => ⟨S192x1x7168, .bf16⟩
  | .hbm, ⟨1, _⟩ => ⟨S7168x8192, .fp8e4m3⟩
  | .hbm, ⟨2, _⟩ => ⟨S56x64, .f32⟩
  | .hbm, ⟨3, _⟩ => ⟨S192x7168, .bf16⟩
  | .hbm, ⟨4, _⟩ => ⟨S192x8192, .bf16⟩
  | .hbm, ⟨5, _⟩ => ⟨S192x7168, .fp8e4m3⟩
  | .hbm, ⟨6, _⟩ => ⟨S192x56, .f32⟩
  | .local _ .vmem, ⟨0, _⟩ => ⟨S192x7168, .bf16⟩
  | .local _ .vmem, ⟨1, _⟩ => ⟨S7168x512, .fp8e4m3⟩
  | .local _ .vmem, ⟨2, _⟩ => ⟨S7168x512, .fp8e4m3⟩
  | .local _ .vmem, ⟨3, _⟩ => ⟨S192x512, .bf16⟩
  | .local _ .vmem, ⟨4, _⟩ => ⟨S192x512, .bf16⟩
  | .local _ .vmem, ⟨5, _⟩ => ⟨S192x7168, .fp8e4m3⟩
  | .local _ .vmem, ⟨6, _⟩ => ⟨S192x56, .f32⟩
  | .local _ .vmem, ⟨7, _⟩ => ⟨S56x192x128, .f32⟩
  | .local _ .smem, ⟨0, _⟩ => ⟨S56x64, .f32⟩
  | _, _ => ⟨S192x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![16], ![false]⟩

def k0_off1 (i : grid0.Coords) (c0_i32_9 : BitVec 32) (c0_i32_10 : BitVec 32) : Fin 2 → Nat :=
  let c0_11 : Index := 0#32
  let arg0 : BitVec 32 := BitVec.ofNat 32 (i 0).val
  let c4_i32 : BitVec 32 := 4#32
  let v3 : BitVec 32 := Scalar.muli arg0 c4_i32
  let v12 : BitVec 32 := Scalar.addi v3 c0_i32_9
  let v13 : BitVec 32 := Scalar.addi v12 c0_i32_10
  let v14 : Index := Scalar.indexCast v13
  ![0, v14.toNat]
def k0_off2 (i : grid0.Coords) (c0_i32_20 : BitVec 32) (c0_i32_21 : BitVec 32) : Fin 2 → Nat :=
  let c1_22 : Index := 1#32
  let arg0 : BitVec 32 := BitVec.ofNat 32 (i 0).val
  let c4_i32 : BitVec 32 := 4#32
  let v3 : BitVec 32 := Scalar.muli arg0 c4_i32
  let v36 : BitVec 32 := Scalar.addi v3 c0_i32_20
  let v37 : BitVec 32 := Scalar.addi v36 c0_i32_21
  let v38 : Index := Scalar.indexCast v37
  ![1, v38.toNat]
def k0_off3 (i : grid0.Coords) (c0_i32_32 : BitVec 32) (c0_i32_33 : BitVec 32) : Fin 2 → Nat :=
  let c2_34 : Index := 2#32
  let arg0 : BitVec 32 := BitVec.ofNat 32 (i 0).val
  let c4_i32 : BitVec 32 := 4#32
  let v3 : BitVec 32 := Scalar.muli arg0 c4_i32
  let v60 : BitVec 32 := Scalar.addi v3 c0_i32_32
  let v61 : BitVec 32 := Scalar.addi v60 c0_i32_33
  let v62 : Index := Scalar.indexCast v61
  ![2, v62.toNat]
def k0_off4 (i : grid0.Coords) (c0_i32_44 : BitVec 32) (c0_i32_45 : BitVec 32) : Fin 2 → Nat :=
  let c3_46 : Index := 3#32
  let arg0 : BitVec 32 := BitVec.ofNat 32 (i 0).val
  let c4_i32 : BitVec 32 := 4#32
  let v3 : BitVec 32 := Scalar.muli arg0 c4_i32
  let v84 : BitVec 32 := Scalar.addi v3 c0_i32_44
  let v85 : BitVec 32 := Scalar.addi v84 c0_i32_45
  let v86 : Index := Scalar.indexCast v85
  ![3, v86.toNat]
def k0_off5 (i : grid0.Coords) (c0_i32_56 : BitVec 32) (c0_i32_57 : BitVec 32) : Fin 2 → Nat :=
  let c4_58 : Index := 4#32
  let arg0 : BitVec 32 := BitVec.ofNat 32 (i 0).val
  let c4_i32 : BitVec 32 := 4#32
  let v3 : BitVec 32 := Scalar.muli arg0 c4_i32
  let v108 : BitVec 32 := Scalar.addi v3 c0_i32_56
  let v109 : BitVec 32 := Scalar.addi v108 c0_i32_57
  let v110 : Index := Scalar.indexCast v109
  ![4, v110.toNat]
def k0_off6 (i : grid0.Coords) (c0_i32_68 : BitVec 32) (c0_i32_69 : BitVec 32) : Fin 2 → Nat :=
  let c5_70 : Index := 5#32
  let arg0 : BitVec 32 := BitVec.ofNat 32 (i 0).val
  let c4_i32 : BitVec 32 := 4#32
  let v3 : BitVec 32 := Scalar.muli arg0 c4_i32
  let v132 : BitVec 32 := Scalar.addi v3 c0_i32_68
  let v133 : BitVec 32 := Scalar.addi v132 c0_i32_69
  let v134 : Index := Scalar.indexCast v133
  ![5, v134.toNat]
def k0_off7 (i : grid0.Coords) (c0_i32_80 : BitVec 32) (c0_i32_81 : BitVec 32) : Fin 2 → Nat :=
  let c6_82 : Index := 6#32
  let arg0 : BitVec 32 := BitVec.ofNat 32 (i 0).val
  let c4_i32 : BitVec 32 := 4#32
  let v3 : BitVec 32 := Scalar.muli arg0 c4_i32
  let v156 : BitVec 32 := Scalar.addi v3 c0_i32_80
  let v157 : BitVec 32 := Scalar.addi v156 c0_i32_81
  let v158 : Index := Scalar.indexCast v157
  ![6, v158.toNat]
def k0_off8 (i : grid0.Coords) (c0_i32_92 : BitVec 32) (c0_i32_93 : BitVec 32) : Fin 2 → Nat :=
  let c7_94 : Index := 7#32
  let arg0 : BitVec 32 := BitVec.ofNat 32 (i 0).val
  let c4_i32 : BitVec 32 := 4#32
  let v3 : BitVec 32 := Scalar.muli arg0 c4_i32
  let v180 : BitVec 32 := Scalar.addi v3 c0_i32_92
  let v181 : BitVec 32 := Scalar.addi v180 c0_i32_93
  let v182 : Index := Scalar.indexCast v181
  ![7, v182.toNat]
def k0_off9 (i : grid0.Coords) (c0_i32_104 : BitVec 32) (c0_i32_105 : BitVec 32) : Fin 2 → Nat :=
  let c8_106 : Index := 8#32
  let arg0 : BitVec 32 := BitVec.ofNat 32 (i 0).val
  let c4_i32 : BitVec 32 := 4#32
  let v3 : BitVec 32 := Scalar.muli arg0 c4_i32
  let v204 : BitVec 32 := Scalar.addi v3 c0_i32_104
  let v205 : BitVec 32 := Scalar.addi v204 c0_i32_105
  let v206 : Index := Scalar.indexCast v205
  ![8, v206.toNat]
def k0_off10 (i : grid0.Coords) (c0_i32_116 : BitVec 32) (c0_i32_117 : BitVec 32) : Fin 2 → Nat :=
  let c9_118 : Index := 9#32
  let arg0 : BitVec 32 := BitVec.ofNat 32 (i 0).val
  let c4_i32 : BitVec 32 := 4#32
  let v3 : BitVec 32 := Scalar.muli arg0 c4_i32
  let v228 : BitVec 32 := Scalar.addi v3 c0_i32_116
  let v229 : BitVec 32 := Scalar.addi v228 c0_i32_117
  let v230 : Index := Scalar.indexCast v229
  ![9, v230.toNat]
def k0_off11 (i : grid0.Coords) (c0_i32_128 : BitVec 32) (c0_i32_129 : BitVec 32) : Fin 2 → Nat :=
  let c10_130 : Index := 10#32
  let arg0 : BitVec 32 := BitVec.ofNat 32 (i 0).val
  let c4_i32 : BitVec 32 := 4#32
  let v3 : BitVec 32 := Scalar.muli arg0 c4_i32
  let v252 : BitVec 32 := Scalar.addi v3 c0_i32_128
  let v253 : BitVec 32 := Scalar.addi v252 c0_i32_129
  let v254 : Index := Scalar.indexCast v253
  ![10, v254.toNat]
def k0_off12 (i : grid0.Coords) (c0_i32_140 : BitVec 32) (c0_i32_141 : BitVec 32) : Fin 2 → Nat :=
  let c11_142 : Index := 11#32
  let arg0 : BitVec 32 := BitVec.ofNat 32 (i 0).val
  let c4_i32 : BitVec 32 := 4#32
  let v3 : BitVec 32 := Scalar.muli arg0 c4_i32
  let v276 : BitVec 32 := Scalar.addi v3 c0_i32_140
  let v277 : BitVec 32 := Scalar.addi v276 c0_i32_141
  let v278 : Index := Scalar.indexCast v277
  ![11, v278.toNat]
def k0_off13 (i : grid0.Coords) (c0_i32_152 : BitVec 32) (c0_i32_153 : BitVec 32) : Fin 2 → Nat :=
  let c12_154 : Index := 12#32
  let arg0 : BitVec 32 := BitVec.ofNat 32 (i 0).val
  let c4_i32 : BitVec 32 := 4#32
  let v3 : BitVec 32 := Scalar.muli arg0 c4_i32
  let v300 : BitVec 32 := Scalar.addi v3 c0_i32_152
  let v301 : BitVec 32 := Scalar.addi v300 c0_i32_153
  let v302 : Index := Scalar.indexCast v301
  ![12, v302.toNat]
def k0_off14 (i : grid0.Coords) (c0_i32_164 : BitVec 32) (c0_i32_165 : BitVec 32) : Fin 2 → Nat :=
  let c13_166 : Index := 13#32
  let arg0 : BitVec 32 := BitVec.ofNat 32 (i 0).val
  let c4_i32 : BitVec 32 := 4#32
  let v3 : BitVec 32 := Scalar.muli arg0 c4_i32
  let v324 : BitVec 32 := Scalar.addi v3 c0_i32_164
  let v325 : BitVec 32 := Scalar.addi v324 c0_i32_165
  let v326 : Index := Scalar.indexCast v325
  ![13, v326.toNat]
def k0_off15 (i : grid0.Coords) (c0_i32_176 : BitVec 32) (c0_i32_177 : BitVec 32) : Fin 2 → Nat :=
  let c14_178 : Index := 14#32
  let arg0 : BitVec 32 := BitVec.ofNat 32 (i 0).val
  let c4_i32 : BitVec 32 := 4#32
  let v3 : BitVec 32 := Scalar.muli arg0 c4_i32
  let v348 : BitVec 32 := Scalar.addi v3 c0_i32_176
  let v349 : BitVec 32 := Scalar.addi v348 c0_i32_177
  let v350 : Index := Scalar.indexCast v349
  ![14, v350.toNat]
def k0_off16 (i : grid0.Coords) (c0_i32_188 : BitVec 32) (c0_i32_189 : BitVec 32) : Fin 2 → Nat :=
  let c15_190 : Index := 15#32
  let arg0 : BitVec 32 := BitVec.ofNat 32 (i 0).val
  let c4_i32 : BitVec 32 := 4#32
  let v3 : BitVec 32 := Scalar.muli arg0 c4_i32
  let v372 : BitVec 32 := Scalar.addi v3 c0_i32_188
  let v373 : BitVec 32 := Scalar.addi v372 c0_i32_189
  let v374 : Index := Scalar.indexCast v373
  ![15, v374.toNat]
def k0_off17 (i : grid0.Coords) (c0_i32_200 : BitVec 32) (c0_i32_201 : BitVec 32) : Fin 2 → Nat :=
  let c16_202 : Index := 16#32
  let arg0 : BitVec 32 := BitVec.ofNat 32 (i 0).val
  let c4_i32 : BitVec 32 := 4#32
  let v3 : BitVec 32 := Scalar.muli arg0 c4_i32
  let v396 : BitVec 32 := Scalar.addi v3 c0_i32_200
  let v397 : BitVec 32 := Scalar.addi v396 c0_i32_201
  let v398 : Index := Scalar.indexCast v397
  ![16, v398.toNat]
def k0_off18 (i : grid0.Coords) (c0_i32_212 : BitVec 32) (c0_i32_213 : BitVec 32) : Fin 2 → Nat :=
  let c17_214 : Index := 17#32
  let arg0 : BitVec 32 := BitVec.ofNat 32 (i 0).val
  let c4_i32 : BitVec 32 := 4#32
  let v3 : BitVec 32 := Scalar.muli arg0 c4_i32
  let v420 : BitVec 32 := Scalar.addi v3 c0_i32_212
  let v421 : BitVec 32 := Scalar.addi v420 c0_i32_213
  let v422 : Index := Scalar.indexCast v421
  ![17, v422.toNat]
def k0_off19 (i : grid0.Coords) (c0_i32_224 : BitVec 32) (c0_i32_225 : BitVec 32) : Fin 2 → Nat :=
  let c18_226 : Index := 18#32
  let arg0 : BitVec 32 := BitVec.ofNat 32 (i 0).val
  let c4_i32 : BitVec 32 := 4#32
  let v3 : BitVec 32 := Scalar.muli arg0 c4_i32
  let v444 : BitVec 32 := Scalar.addi v3 c0_i32_224
  let v445 : BitVec 32 := Scalar.addi v444 c0_i32_225
  let v446 : Index := Scalar.indexCast v445
  ![18, v446.toNat]
def k0_off20 (i : grid0.Coords) (c0_i32_236 : BitVec 32) (c0_i32_237 : BitVec 32) : Fin 2 → Nat :=
  let c19_238 : Index := 19#32
  let arg0 : BitVec 32 := BitVec.ofNat 32 (i 0).val
  let c4_i32 : BitVec 32 := 4#32
  let v3 : BitVec 32 := Scalar.muli arg0 c4_i32
  let v468 : BitVec 32 := Scalar.addi v3 c0_i32_236
  let v469 : BitVec 32 := Scalar.addi v468 c0_i32_237
  let v470 : Index := Scalar.indexCast v469
  ![19, v470.toNat]
def k0_off21 (i : grid0.Coords) (c0_i32_248 : BitVec 32) (c0_i32_249 : BitVec 32) : Fin 2 → Nat :=
  let c20_250 : Index := 20#32
  let arg0 : BitVec 32 := BitVec.ofNat 32 (i 0).val
  let c4_i32 : BitVec 32 := 4#32
  let v3 : BitVec 32 := Scalar.muli arg0 c4_i32
  let v492 : BitVec 32 := Scalar.addi v3 c0_i32_248
  let v493 : BitVec 32 := Scalar.addi v492 c0_i32_249
  let v494 : Index := Scalar.indexCast v493
  ![20, v494.toNat]
def k0_off22 (i : grid0.Coords) (c0_i32_260 : BitVec 32) (c0_i32_261 : BitVec 32) : Fin 2 → Nat :=
  let c21_262 : Index := 21#32
  let arg0 : BitVec 32 := BitVec.ofNat 32 (i 0).val
  let c4_i32 : BitVec 32 := 4#32
  let v3 : BitVec 32 := Scalar.muli arg0 c4_i32
  let v516 : BitVec 32 := Scalar.addi v3 c0_i32_260
  let v517 : BitVec 32 := Scalar.addi v516 c0_i32_261
  let v518 : Index := Scalar.indexCast v517
  ![21, v518.toNat]
def k0_off23 (i : grid0.Coords) (c0_i32_272 : BitVec 32) (c0_i32_273 : BitVec 32) : Fin 2 → Nat :=
  let c22_274 : Index := 22#32
  let arg0 : BitVec 32 := BitVec.ofNat 32 (i 0).val
  let c4_i32 : BitVec 32 := 4#32
  let v3 : BitVec 32 := Scalar.muli arg0 c4_i32
  let v540 : BitVec 32 := Scalar.addi v3 c0_i32_272
  let v541 : BitVec 32 := Scalar.addi v540 c0_i32_273
  let v542 : Index := Scalar.indexCast v541
  ![22, v542.toNat]
def k0_off24 (i : grid0.Coords) (c0_i32_284 : BitVec 32) (c0_i32_285 : BitVec 32) : Fin 2 → Nat :=
  let c23_286 : Index := 23#32
  let arg0 : BitVec 32 := BitVec.ofNat 32 (i 0).val
  let c4_i32 : BitVec 32 := 4#32
  let v3 : BitVec 32 := Scalar.muli arg0 c4_i32
  let v564 : BitVec 32 := Scalar.addi v3 c0_i32_284
  let v565 : BitVec 32 := Scalar.addi v564 c0_i32_285
  let v566 : Index := Scalar.indexCast v565
  ![23, v566.toNat]
def k0_off25 (i : grid0.Coords) (c0_i32_296 : BitVec 32) (c0_i32_297 : BitVec 32) : Fin 2 → Nat :=
  let c24_298 : Index := 24#32
  let arg0 : BitVec 32 := BitVec.ofNat 32 (i 0).val
  let c4_i32 : BitVec 32 := 4#32
  let v3 : BitVec 32 := Scalar.muli arg0 c4_i32
  let v588 : BitVec 32 := Scalar.addi v3 c0_i32_296
  let v589 : BitVec 32 := Scalar.addi v588 c0_i32_297
  let v590 : Index := Scalar.indexCast v589
  ![24, v590.toNat]
def k0_off26 (i : grid0.Coords) (c0_i32_308 : BitVec 32) (c0_i32_309 : BitVec 32) : Fin 2 → Nat :=
  let c25_310 : Index := 25#32
  let arg0 : BitVec 32 := BitVec.ofNat 32 (i 0).val
  let c4_i32 : BitVec 32 := 4#32
  let v3 : BitVec 32 := Scalar.muli arg0 c4_i32
  let v612 : BitVec 32 := Scalar.addi v3 c0_i32_308
  let v613 : BitVec 32 := Scalar.addi v612 c0_i32_309
  let v614 : Index := Scalar.indexCast v613
  ![25, v614.toNat]
def k0_off27 (i : grid0.Coords) (c0_i32_320 : BitVec 32) (c0_i32_321 : BitVec 32) : Fin 2 → Nat :=
  let c26_322 : Index := 26#32
  let arg0 : BitVec 32 := BitVec.ofNat 32 (i 0).val
  let c4_i32 : BitVec 32 := 4#32
  let v3 : BitVec 32 := Scalar.muli arg0 c4_i32
  let v636 : BitVec 32 := Scalar.addi v3 c0_i32_320
  let v637 : BitVec 32 := Scalar.addi v636 c0_i32_321
  let v638 : Index := Scalar.indexCast v637
  ![26, v638.toNat]
def k0_off28 (i : grid0.Coords) (c0_i32_332 : BitVec 32) (c0_i32_333 : BitVec 32) : Fin 2 → Nat :=
  let c27_334 : Index := 27#32
  let arg0 : BitVec 32 := BitVec.ofNat 32 (i 0).val
  let c4_i32 : BitVec 32 := 4#32
  let v3 : BitVec 32 := Scalar.muli arg0 c4_i32
  let v660 : BitVec 32 := Scalar.addi v3 c0_i32_332
  let v661 : BitVec 32 := Scalar.addi v660 c0_i32_333
  let v662 : Index := Scalar.indexCast v661
  ![27, v662.toNat]
def k0_off29 (i : grid0.Coords) (c0_i32_344 : BitVec 32) (c0_i32_345 : BitVec 32) : Fin 2 → Nat :=
  let c28_346 : Index := 28#32
  let arg0 : BitVec 32 := BitVec.ofNat 32 (i 0).val
  let c4_i32 : BitVec 32 := 4#32
  let v3 : BitVec 32 := Scalar.muli arg0 c4_i32
  let v684 : BitVec 32 := Scalar.addi v3 c0_i32_344
  let v685 : BitVec 32 := Scalar.addi v684 c0_i32_345
  let v686 : Index := Scalar.indexCast v685
  ![28, v686.toNat]
def k0_off30 (i : grid0.Coords) (c0_i32_356 : BitVec 32) (c0_i32_357 : BitVec 32) : Fin 2 → Nat :=
  let c29_358 : Index := 29#32
  let arg0 : BitVec 32 := BitVec.ofNat 32 (i 0).val
  let c4_i32 : BitVec 32 := 4#32
  let v3 : BitVec 32 := Scalar.muli arg0 c4_i32
  let v708 : BitVec 32 := Scalar.addi v3 c0_i32_356
  let v709 : BitVec 32 := Scalar.addi v708 c0_i32_357
  let v710 : Index := Scalar.indexCast v709
  ![29, v710.toNat]
def k0_off31 (i : grid0.Coords) (c0_i32_368 : BitVec 32) (c0_i32_369 : BitVec 32) : Fin 2 → Nat :=
  let c30_370 : Index := 30#32
  let arg0 : BitVec 32 := BitVec.ofNat 32 (i 0).val
  let c4_i32 : BitVec 32 := 4#32
  let v3 : BitVec 32 := Scalar.muli arg0 c4_i32
  let v732 : BitVec 32 := Scalar.addi v3 c0_i32_368
  let v733 : BitVec 32 := Scalar.addi v732 c0_i32_369
  let v734 : Index := Scalar.indexCast v733
  ![30, v734.toNat]
def k0_off32 (i : grid0.Coords) (c0_i32_380 : BitVec 32) (c0_i32_381 : BitVec 32) : Fin 2 → Nat :=
  let c31_382 : Index := 31#32
  let arg0 : BitVec 32 := BitVec.ofNat 32 (i 0).val
  let c4_i32 : BitVec 32 := 4#32
  let v3 : BitVec 32 := Scalar.muli arg0 c4_i32
  let v756 : BitVec 32 := Scalar.addi v3 c0_i32_380
  let v757 : BitVec 32 := Scalar.addi v756 c0_i32_381
  let v758 : Index := Scalar.indexCast v757
  ![31, v758.toNat]
def k0_off33 (i : grid0.Coords) (c0_i32_392 : BitVec 32) (c0_i32_393 : BitVec 32) : Fin 2 → Nat :=
  let c32_394 : Index := 32#32
  let arg0 : BitVec 32 := BitVec.ofNat 32 (i 0).val
  let c4_i32 : BitVec 32 := 4#32
  let v3 : BitVec 32 := Scalar.muli arg0 c4_i32
  let v780 : BitVec 32 := Scalar.addi v3 c0_i32_392
  let v781 : BitVec 32 := Scalar.addi v780 c0_i32_393
  let v782 : Index := Scalar.indexCast v781
  ![32, v782.toNat]
def k0_off34 (i : grid0.Coords) (c0_i32_404 : BitVec 32) (c0_i32_405 : BitVec 32) : Fin 2 → Nat :=
  let c33_406 : Index := 33#32
  let arg0 : BitVec 32 := BitVec.ofNat 32 (i 0).val
  let c4_i32 : BitVec 32 := 4#32
  let v3 : BitVec 32 := Scalar.muli arg0 c4_i32
  let v804 : BitVec 32 := Scalar.addi v3 c0_i32_404
  let v805 : BitVec 32 := Scalar.addi v804 c0_i32_405
  let v806 : Index := Scalar.indexCast v805
  ![33, v806.toNat]
def k0_off35 (i : grid0.Coords) (c0_i32_416 : BitVec 32) (c0_i32_417 : BitVec 32) : Fin 2 → Nat :=
  let c34_418 : Index := 34#32
  let arg0 : BitVec 32 := BitVec.ofNat 32 (i 0).val
  let c4_i32 : BitVec 32 := 4#32
  let v3 : BitVec 32 := Scalar.muli arg0 c4_i32
  let v828 : BitVec 32 := Scalar.addi v3 c0_i32_416
  let v829 : BitVec 32 := Scalar.addi v828 c0_i32_417
  let v830 : Index := Scalar.indexCast v829
  ![34, v830.toNat]
def k0_off36 (i : grid0.Coords) (c0_i32_428 : BitVec 32) (c0_i32_429 : BitVec 32) : Fin 2 → Nat :=
  let c35_430 : Index := 35#32
  let arg0 : BitVec 32 := BitVec.ofNat 32 (i 0).val
  let c4_i32 : BitVec 32 := 4#32
  let v3 : BitVec 32 := Scalar.muli arg0 c4_i32
  let v852 : BitVec 32 := Scalar.addi v3 c0_i32_428
  let v853 : BitVec 32 := Scalar.addi v852 c0_i32_429
  let v854 : Index := Scalar.indexCast v853
  ![35, v854.toNat]
def k0_off37 (i : grid0.Coords) (c0_i32_440 : BitVec 32) (c0_i32_441 : BitVec 32) : Fin 2 → Nat :=
  let c36_442 : Index := 36#32
  let arg0 : BitVec 32 := BitVec.ofNat 32 (i 0).val
  let c4_i32 : BitVec 32 := 4#32
  let v3 : BitVec 32 := Scalar.muli arg0 c4_i32
  let v876 : BitVec 32 := Scalar.addi v3 c0_i32_440
  let v877 : BitVec 32 := Scalar.addi v876 c0_i32_441
  let v878 : Index := Scalar.indexCast v877
  ![36, v878.toNat]
def k0_off38 (i : grid0.Coords) (c0_i32_452 : BitVec 32) (c0_i32_453 : BitVec 32) : Fin 2 → Nat :=
  let c37_454 : Index := 37#32
  let arg0 : BitVec 32 := BitVec.ofNat 32 (i 0).val
  let c4_i32 : BitVec 32 := 4#32
  let v3 : BitVec 32 := Scalar.muli arg0 c4_i32
  let v900 : BitVec 32 := Scalar.addi v3 c0_i32_452
  let v901 : BitVec 32 := Scalar.addi v900 c0_i32_453
  let v902 : Index := Scalar.indexCast v901
  ![37, v902.toNat]
def k0_off39 (i : grid0.Coords) (c0_i32_464 : BitVec 32) (c0_i32_465 : BitVec 32) : Fin 2 → Nat :=
  let c38_466 : Index := 38#32
  let arg0 : BitVec 32 := BitVec.ofNat 32 (i 0).val
  let c4_i32 : BitVec 32 := 4#32
  let v3 : BitVec 32 := Scalar.muli arg0 c4_i32
  let v924 : BitVec 32 := Scalar.addi v3 c0_i32_464
  let v925 : BitVec 32 := Scalar.addi v924 c0_i32_465
  let v926 : Index := Scalar.indexCast v925
  ![38, v926.toNat]
def k0_off40 (i : grid0.Coords) (c0_i32_476 : BitVec 32) (c0_i32_477 : BitVec 32) : Fin 2 → Nat :=
  let c39_478 : Index := 39#32
  let arg0 : BitVec 32 := BitVec.ofNat 32 (i 0).val
  let c4_i32 : BitVec 32 := 4#32
  let v3 : BitVec 32 := Scalar.muli arg0 c4_i32
  let v948 : BitVec 32 := Scalar.addi v3 c0_i32_476
  let v949 : BitVec 32 := Scalar.addi v948 c0_i32_477
  let v950 : Index := Scalar.indexCast v949
  ![39, v950.toNat]
def k0_off41 (i : grid0.Coords) (c0_i32_488 : BitVec 32) (c0_i32_489 : BitVec 32) : Fin 2 → Nat :=
  let c40_490 : Index := 40#32
  let arg0 : BitVec 32 := BitVec.ofNat 32 (i 0).val
  let c4_i32 : BitVec 32 := 4#32
  let v3 : BitVec 32 := Scalar.muli arg0 c4_i32
  let v972 : BitVec 32 := Scalar.addi v3 c0_i32_488
  let v973 : BitVec 32 := Scalar.addi v972 c0_i32_489
  let v974 : Index := Scalar.indexCast v973
  ![40, v974.toNat]
def k0_off42 (i : grid0.Coords) (c0_i32_500 : BitVec 32) (c0_i32_501 : BitVec 32) : Fin 2 → Nat :=
  let c41_502 : Index := 41#32
  let arg0 : BitVec 32 := BitVec.ofNat 32 (i 0).val
  let c4_i32 : BitVec 32 := 4#32
  let v3 : BitVec 32 := Scalar.muli arg0 c4_i32
  let v996 : BitVec 32 := Scalar.addi v3 c0_i32_500
  let v997 : BitVec 32 := Scalar.addi v996 c0_i32_501
  let v998 : Index := Scalar.indexCast v997
  ![41, v998.toNat]
def k0_off43 (i : grid0.Coords) (c0_i32_512 : BitVec 32) (c0_i32_513 : BitVec 32) : Fin 2 → Nat :=
  let c42_514 : Index := 42#32
  let arg0 : BitVec 32 := BitVec.ofNat 32 (i 0).val
  let c4_i32 : BitVec 32 := 4#32
  let v3 : BitVec 32 := Scalar.muli arg0 c4_i32
  let v1020 : BitVec 32 := Scalar.addi v3 c0_i32_512
  let v1021 : BitVec 32 := Scalar.addi v1020 c0_i32_513
  let v1022 : Index := Scalar.indexCast v1021
  ![42, v1022.toNat]
def k0_off44 (i : grid0.Coords) (c0_i32_524 : BitVec 32) (c0_i32_525 : BitVec 32) : Fin 2 → Nat :=
  let c43_526 : Index := 43#32
  let arg0 : BitVec 32 := BitVec.ofNat 32 (i 0).val
  let c4_i32 : BitVec 32 := 4#32
  let v3 : BitVec 32 := Scalar.muli arg0 c4_i32
  let v1044 : BitVec 32 := Scalar.addi v3 c0_i32_524
  let v1045 : BitVec 32 := Scalar.addi v1044 c0_i32_525
  let v1046 : Index := Scalar.indexCast v1045
  ![43, v1046.toNat]
def k0_off45 (i : grid0.Coords) (c0_i32_536 : BitVec 32) (c0_i32_537 : BitVec 32) : Fin 2 → Nat :=
  let c44_538 : Index := 44#32
  let arg0 : BitVec 32 := BitVec.ofNat 32 (i 0).val
  let c4_i32 : BitVec 32 := 4#32
  let v3 : BitVec 32 := Scalar.muli arg0 c4_i32
  let v1068 : BitVec 32 := Scalar.addi v3 c0_i32_536
  let v1069 : BitVec 32 := Scalar.addi v1068 c0_i32_537
  let v1070 : Index := Scalar.indexCast v1069
  ![44, v1070.toNat]
def k0_off46 (i : grid0.Coords) (c0_i32_548 : BitVec 32) (c0_i32_549 : BitVec 32) : Fin 2 → Nat :=
  let c45_550 : Index := 45#32
  let arg0 : BitVec 32 := BitVec.ofNat 32 (i 0).val
  let c4_i32 : BitVec 32 := 4#32
  let v3 : BitVec 32 := Scalar.muli arg0 c4_i32
  let v1092 : BitVec 32 := Scalar.addi v3 c0_i32_548
  let v1093 : BitVec 32 := Scalar.addi v1092 c0_i32_549
  let v1094 : Index := Scalar.indexCast v1093
  ![45, v1094.toNat]
def k0_off47 (i : grid0.Coords) (c0_i32_560 : BitVec 32) (c0_i32_561 : BitVec 32) : Fin 2 → Nat :=
  let c46_562 : Index := 46#32
  let arg0 : BitVec 32 := BitVec.ofNat 32 (i 0).val
  let c4_i32 : BitVec 32 := 4#32
  let v3 : BitVec 32 := Scalar.muli arg0 c4_i32
  let v1116 : BitVec 32 := Scalar.addi v3 c0_i32_560
  let v1117 : BitVec 32 := Scalar.addi v1116 c0_i32_561
  let v1118 : Index := Scalar.indexCast v1117
  ![46, v1118.toNat]
def k0_off48 (i : grid0.Coords) (c0_i32_572 : BitVec 32) (c0_i32_573 : BitVec 32) : Fin 2 → Nat :=
  let c47_574 : Index := 47#32
  let arg0 : BitVec 32 := BitVec.ofNat 32 (i 0).val
  let c4_i32 : BitVec 32 := 4#32
  let v3 : BitVec 32 := Scalar.muli arg0 c4_i32
  let v1140 : BitVec 32 := Scalar.addi v3 c0_i32_572
  let v1141 : BitVec 32 := Scalar.addi v1140 c0_i32_573
  let v1142 : Index := Scalar.indexCast v1141
  ![47, v1142.toNat]
def k0_off49 (i : grid0.Coords) (c0_i32_584 : BitVec 32) (c0_i32_585 : BitVec 32) : Fin 2 → Nat :=
  let c48_586 : Index := 48#32
  let arg0 : BitVec 32 := BitVec.ofNat 32 (i 0).val
  let c4_i32 : BitVec 32 := 4#32
  let v3 : BitVec 32 := Scalar.muli arg0 c4_i32
  let v1164 : BitVec 32 := Scalar.addi v3 c0_i32_584
  let v1165 : BitVec 32 := Scalar.addi v1164 c0_i32_585
  let v1166 : Index := Scalar.indexCast v1165
  ![48, v1166.toNat]
def k0_off50 (i : grid0.Coords) (c0_i32_596 : BitVec 32) (c0_i32_597 : BitVec 32) : Fin 2 → Nat :=
  let c49_598 : Index := 49#32
  let arg0 : BitVec 32 := BitVec.ofNat 32 (i 0).val
  let c4_i32 : BitVec 32 := 4#32
  let v3 : BitVec 32 := Scalar.muli arg0 c4_i32
  let v1188 : BitVec 32 := Scalar.addi v3 c0_i32_596
  let v1189 : BitVec 32 := Scalar.addi v1188 c0_i32_597
  let v1190 : Index := Scalar.indexCast v1189
  ![49, v1190.toNat]
def k0_off51 (i : grid0.Coords) (c0_i32_608 : BitVec 32) (c0_i32_609 : BitVec 32) : Fin 2 → Nat :=
  let c50_610 : Index := 50#32
  let arg0 : BitVec 32 := BitVec.ofNat 32 (i 0).val
  let c4_i32 : BitVec 32 := 4#32
  let v3 : BitVec 32 := Scalar.muli arg0 c4_i32
  let v1212 : BitVec 32 := Scalar.addi v3 c0_i32_608
  let v1213 : BitVec 32 := Scalar.addi v1212 c0_i32_609
  let v1214 : Index := Scalar.indexCast v1213
  ![50, v1214.toNat]
def k0_off52 (i : grid0.Coords) (c0_i32_620 : BitVec 32) (c0_i32_621 : BitVec 32) : Fin 2 → Nat :=
  let c51_622 : Index := 51#32
  let arg0 : BitVec 32 := BitVec.ofNat 32 (i 0).val
  let c4_i32 : BitVec 32 := 4#32
  let v3 : BitVec 32 := Scalar.muli arg0 c4_i32
  let v1236 : BitVec 32 := Scalar.addi v3 c0_i32_620
  let v1237 : BitVec 32 := Scalar.addi v1236 c0_i32_621
  let v1238 : Index := Scalar.indexCast v1237
  ![51, v1238.toNat]
def k0_off53 (i : grid0.Coords) (c0_i32_632 : BitVec 32) (c0_i32_633 : BitVec 32) : Fin 2 → Nat :=
  let c52_634 : Index := 52#32
  let arg0 : BitVec 32 := BitVec.ofNat 32 (i 0).val
  let c4_i32 : BitVec 32 := 4#32
  let v3 : BitVec 32 := Scalar.muli arg0 c4_i32
  let v1260 : BitVec 32 := Scalar.addi v3 c0_i32_632
  let v1261 : BitVec 32 := Scalar.addi v1260 c0_i32_633
  let v1262 : Index := Scalar.indexCast v1261
  ![52, v1262.toNat]
def k0_off54 (i : grid0.Coords) (c0_i32_644 : BitVec 32) (c0_i32_645 : BitVec 32) : Fin 2 → Nat :=
  let c53_646 : Index := 53#32
  let arg0 : BitVec 32 := BitVec.ofNat 32 (i 0).val
  let c4_i32 : BitVec 32 := 4#32
  let v3 : BitVec 32 := Scalar.muli arg0 c4_i32
  let v1284 : BitVec 32 := Scalar.addi v3 c0_i32_644
  let v1285 : BitVec 32 := Scalar.addi v1284 c0_i32_645
  let v1286 : Index := Scalar.indexCast v1285
  ![53, v1286.toNat]
def k0_off55 (i : grid0.Coords) (c0_i32_656 : BitVec 32) (c0_i32_657 : BitVec 32) : Fin 2 → Nat :=
  let c54_658 : Index := 54#32
  let arg0 : BitVec 32 := BitVec.ofNat 32 (i 0).val
  let c4_i32 : BitVec 32 := 4#32
  let v3 : BitVec 32 := Scalar.muli arg0 c4_i32
  let v1308 : BitVec 32 := Scalar.addi v3 c0_i32_656
  let v1309 : BitVec 32 := Scalar.addi v1308 c0_i32_657
  let v1310 : Index := Scalar.indexCast v1309
  ![54, v1310.toNat]
def k0_off56 (i : grid0.Coords) (c0_i32_668 : BitVec 32) (c0_i32_669 : BitVec 32) : Fin 2 → Nat :=
  let c55_670 : Index := 55#32
  let arg0 : BitVec 32 := BitVec.ofNat 32 (i 0).val
  let c4_i32 : BitVec 32 := 4#32
  let v3 : BitVec 32 := Scalar.muli arg0 c4_i32
  let v1332 : BitVec 32 := Scalar.addi v3 c0_i32_668
  let v1333 : BitVec 32 := Scalar.addi v1332 c0_i32_669
  let v1334 : Index := Scalar.indexCast v1333
  ![55, v1334.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S56x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S192x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S7168x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S192x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S192x1x7168 : Shape := ⟨3, ![192, 1, 7168]⟩
abbrev S7168x8192 : Shape := ⟨2, ![7168, 8192]⟩
abbrev S56x64 : Shape := ⟨2, ![56, 64]⟩
abbrev S192x8192 : Shape := ⟨2, ![192, 8192]⟩
abbrev S192x7168 : Shape := ⟨2, ![192, 7168]⟩
abbrev S192x56 : Shape := ⟨2, ![192, 56]⟩
abbrev S192x56x128 : Shape := ⟨3, ![192, 56, 128]⟩
abbrev S1x1x277 : Shape := ⟨3, ![1, 1, 277]⟩
abbrev S192x56x1 : Shape := ⟨3, ![192, 56, 1]⟩
abbrev S192x56x277 : Shape := ⟨3, ![192, 56, 277]⟩
abbrev S56x128x8192 : Shape := ⟨3, ![56, 128, 8192]⟩
abbrev S56x192x8192 : Shape := ⟨3, ![56, 192, 8192]⟩
abbrev S56x192 : Shape := ⟨2, ![56, 192]⟩
abbrev S56x192x1 : Shape := ⟨3, ![56, 192, 1]⟩
abbrev S56x64x1 : Shape := ⟨3, ![56, 64, 1]⟩
abbrev S56x64x128 : Shape := ⟨3, ![56, 64, 128]⟩
abbrev S56x8192 : Shape := ⟨2, ![56, 8192]⟩
abbrev S56x1x8192 : Shape := ⟨3, ![56, 1, 8192]⟩

abbrev nBuf : Space → Nat
  | .hbm => 6
  | .vmem => 6
  | .smem => 0
  | _ => 0

abbrev bufTy : (tb : Table) → Fin (tcTables nBuf tb) → BufTy
  | .hbm, ⟨0, _⟩ => ⟨S192x1x7168, .bf16⟩
  | .hbm, ⟨1, _⟩ => ⟨S7168x8192, .fp8e4m3⟩
  | .hbm, ⟨2, _⟩ => ⟨S56x64, .f32⟩
  | .hbm, ⟨3, _⟩ => ⟨S192x8192, .bf16⟩
  | .hbm, ⟨4, _⟩ => ⟨S192x7168, .fp8e4m3⟩
  | .hbm, ⟨5, _⟩ => ⟨S192x56, .f32⟩
  | .local _ .vmem, ⟨0, _⟩ => ⟨S192x1x7168, .bf16⟩
  | .local _ .vmem, ⟨1, _⟩ => ⟨S7168x8192, .fp8e4m3⟩
  | .local _ .vmem, ⟨2, _⟩ => ⟨S56x64, .f32⟩
  | .local _ .vmem, ⟨3, _⟩ => ⟨S192x8192, .bf16⟩
  | .local _ .vmem, ⟨4, _⟩ => ⟨S192x7168, .fp8e4m3⟩
  | .local _ .vmem, ⟨5, _⟩ => ⟨S192x56, .f32⟩
  | _, _ => ⟨S192x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S192x1x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S56x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.BitsSplit.lean ====
module

public import proofs.«01_k».proof.Proof.Gen.Kernel.Frame
public import proofs.«01_k».proof.Proof.Gen.Kernel.Skeleton

@[expose] public section

/-! # The kernel body in two stretches

The body of the kernel quantises the activations at the first grid point only, then multiplies at every point.
Here the two stretches are named (`quant`, `mainBody`) and the body is shown to be: at a point where the
condition holds, the first then the second, and at every other point the second alone.

This module speaks of the kernel at its machine formats; its namesake without `Bits` speaks of the same text read over the
extended reals, which is printed as a program of its own. -/

set_option maxRecDepth 16384

noncomputable section

namespace Cert.Kernel.Gen

open Idealize.ShloMosaic Idealize.ShloMosaic.TcCoe Idealize.ShloMosaic.Tactic
open Idealize.SL Idealize.SL.Sem

variable {F : FTy → Type} [FloatOps F]

/-- The quantising stretch: what the body runs under its condition. -/
def quant (i : grid0.Coords) (arg1 : Memref sig .tc .smem S56x64 .f32) (harg1 : arg1.IsWhole) (arg2 : Memref sig .tc .vmem S192x7168 .bf16) (harg2 : arg2.IsWhole) (arg3 : Memref sig .tc .vmem S7168x512 .fp8e4m3) (harg3 : arg3.IsWhole) (arg4 : Memref sig .tc .vmem S192x512 .bf16) (harg4 : arg4.IsWhole) (arg5 : Memref sig .tc .vmem S192x7168 .fp8e4m3) (harg5 : arg5.IsWhole) (arg6 : Memref sig .tc .vmem S192x56 .f32) (harg6 : arg6.IsWhole) (arg7 : Memref sig .tc .vmem S56x192x128 .f32) (harg7 : arg7.IsWhole) :
    Prog (TpuEff nD τ sig (Elt F) Λ₀ .tc) PUnit := do
  let ⟨v5404, v7905, v7986, v7996⟩ : Σ' (v5404 : IVec S192x56 32) (v7905 : FVec F S192x56 .f32) (v7986 : FVec F S192x128 .f32), FVec F S192x128 .f32 ← k0_part130 i arg1 harg1 arg2 harg2 arg3 harg3 arg4 harg4 arg5 harg5 arg6 harg6 arg7 harg7
  let ⟨v10505, v10508, v10581, v10586⟩ : Σ' (v10505 : FVec F S192x56 .f32) (v10508 : FVec F S192x128 .f32) (v10581 : IVec S192x128 32), FVec F S192x128 .f32 ← k0_part131 i arg1 harg1 arg2 harg2 arg3 harg3 arg4 harg4 arg5 harg5 arg6 harg6 arg7 harg7 v5404 v7905 v7986 v7996
  k0_part132 i arg1 harg1 arg2 harg2 arg3 harg3 arg4 harg4 arg5 harg5 arg6 harg6 arg7 harg7 v5404 v10505 v10508 v10581 v10586

/-- The first part of the multiplying stretch: its first loads. -/
def rest133 (i : grid0.Coords) (arg1 : Memref sig .tc .smem S56x64 .f32) (harg1 : arg1.IsWhole) (arg2 : Memref sig .tc .vmem S192x7168 .bf16) (harg2 : arg2.IsWhole) (arg3 : Memref sig .tc .vmem S7168x512 .fp8e4m3) (harg3 : arg3.IsWhole) (arg4 : Memref sig .tc .vmem S192x512 .bf16) (harg4 : arg4.IsWhole) (arg5 : Memref sig .tc .vmem S192x7168 .fp8e4m3) (harg5 : arg5.IsWhole) (arg6 : Memref sig .tc .vmem S192x56 .f32) (harg6 : arg6.IsWhole) (arg7 : Memref sig .tc .vmem S56x192x128 .f32) (harg7 : arg7.IsWhole) :
    Prog (TpuEff nD τ sig (Elt F) Λ₀ .tc) (Σ' (v3 : BitVec 32) (v20 : FVec F S96x128 .f32) (v29 : FVec F S96x128 .f32), FVec F S96x256 .f32) := do
  let arg0 : BitVec 32 := BitVec.ofNat 32 (i 0).val
  let v3 : BitVec 32 := Scalar.muli arg0 4#32
  let v6 : Vec F S96x128 .fp8e4m3 ← Prog.lift (.load arg5 (Rect.unit (s := S192x7168) ![0, 0] S96x128.size inb_S192x7168_S96x128_0_0).toLoadRect (View.loadsAt_vmem h_S96x128))
  let v8 : Vec F S128x256 .fp8e4m3 ← Prog.lift (.load arg3 (Rect.unit (s := S7168x512) ![0, 0] S128x256.size inb_S7168x512_S128x256_0_0).toLoadRect (View.loadsAt_vmem h_S128x256))
  let v10 : Vec F S1x96x128 .f32 ← Prog.lift (.load arg7 (Rect.unit (s := S56x192x128) ![0, 0, 0] S1x96x128.size inb_S56x192x128_S1x96x128_0_0_0).toLoadRect (View.loadsAt_vmem h_S1x96x128))
  let v15 : Elt F .f32 ← smemLoad arg1 (Rect.unit (s := S56x64) (k0_off1 i 0#32 0#32) S1x1.size (k0_off1_inb i 0 0)) numel1_S1x1 rfl
  let v24 : Elt F .f32 ← smemLoad arg1 (Rect.unit (s := S56x64) (k0_off1 i 0#32 1#32) S1x1.size (k0_off1_inb i 0 1)) numel1_S1x1 rfl
  let v30 : Vec F S96x128 .fp8e4m3 ← Prog.lift (.load arg5 (Rect.unit (s := S192x7168) ![0, 128] S96x128.size inb_S192x7168_S96x128_0_128).toLoadRect (View.loadsAt_vmem h_S96x128))
  let v32 : Vec F S128x256 .fp8e4m3 ← Prog.lift (.load arg3 (Rect.unit (s := S7168x512) ![128, 0] S128x256.size inb_S7168x512_S128x256_128_0).toLoadRect (View.loadsAt_vmem h_S128x256))
  pure ⟨v3, k0_pay610 v6 v8 v10 v15, k0_pay611 v6 v8 v10 v24, k0_pay612 v30 v32⟩

/-- The first sixty parts of the multiplying stretch. -/
def rest275 (i : grid0.Coords) (arg1 : Memref sig .tc .smem S56x64 .f32) (harg1 : arg1.IsWhole) (arg2 : Memref sig .tc .vmem S192x7168 .bf16) (harg2 : arg2.IsWhole) (arg3 : Memref sig .tc .vmem S7168x512 .fp8e4m3) (harg3 : arg3.IsWhole) (arg4 : Memref sig .tc .vmem S192x512 .bf16) (harg4 : arg4.IsWhole) (arg5 : Memref sig .tc .vmem S192x7168 .fp8e4m3) (harg5 : arg5.IsWhole) (arg6 : Memref sig .tc .vmem S192x56 .f32) (harg6 : arg6.IsWhole) (arg7 : Memref sig .tc .vmem S56x192x128 .f32) (harg7 : arg7.IsWhole) :
    Prog (TpuEff nD τ sig (Elt F) Λ₀ .tc) (Σ' (v3 : BitVec 32) (v2258 : FVec F S96x128 .f32), FVec F S96x128 .f32) := do
  let ⟨v3, v20, v29, v33⟩ : Σ' (v3 : BitVec 32) (v20 : FVec F S96x128 .f32) (v29 : FVec F S96x128 .f32), FVec F S96x256 .f32 ← rest133 i arg1 harg1 arg2 harg2 arg3 harg3 arg4 harg4 arg5 harg5 arg6 harg6 arg7 harg7
  let ⟨v53, v57, v59, v68, v70⟩ : Σ' (v53 : FVec F S96x128 .f32) (v57 : FVec F S96x256 .f32) (v59 : FVec F S96x128 .f32) (v68 : FVec F S96x128 .f32), BitVec 32 ← k0_part134 i arg1 harg1 arg2 harg2 arg3 harg3 arg4 harg4 arg5 harg5 arg6 harg6 arg7 harg7 v3 v20 v29 v33
  let ⟨v92, v101, v105, v107, c0_i32_56⟩ : Σ' (v92 : FVec F S96x128 .f32) (v101 : FVec F S96x128 .f32) (v105 : FVec F S96x256 .f32) (v107 : FVec F S96x128 .f32), BitVec 32 ← k0_part135 i arg1 harg1 arg2 harg2 arg3 harg3 arg4 harg4 arg5 harg5 arg6 harg6 arg7 harg7 v3 v53 v57 v59 v68 v70
  let ⟨v125, v140, v148⟩ : Σ' (v125 : FVec F S96x128 .f32) (v140 : FVec F S96x128 .f32), FVec F S96x128 .f32 ← k0_part136 i arg1 harg1 arg2 harg2 arg3 harg3 arg4 harg4 arg5 harg5 arg6 harg6 arg7 harg7 v3 v92 v101 v105 v107 c0_i32_56
  let ⟨v164, v173, v177, v179, v183⟩ : Σ' (v164 : FVec F S96x128 .f32) (v173 : FVec F S96x128 .f32) (v177 : FVec F S96x256 .f32) (v179 : FVec F S96x128 .f32), Elt F .f32 ← k0_part137 i arg1 harg1 arg2 harg2 arg3 harg3 arg4 harg4 arg5 harg5 arg6 harg6 arg7 harg7 v3 v125 v140 v148
  let ⟨v212, v221, v223⟩ : Σ' (v212 : FVec F S96x128 .f32) (v221 : FVec F S96x128 .f32), FVec F S96x128 .fp8e4m3 ← k0_part138 i arg1 harg1 arg2 harg2 arg3 harg3 arg4 harg4 arg5 harg5 arg6 harg6 arg7 harg7 v3 v164 v173 v177 v179 v183
  let ⟨v245, v249, v251, v260, c0_i32_131⟩ : Σ' (v245 : FVec F S96x128 .f32) (v249 : FVec F S96x256 .f32) (v251 : FVec F S96x128 .f32) (v260 : FVec F S96x128 .f32), BitVec 32 ← k0_part139 i arg1 harg1 arg2 harg2 arg3 harg3 arg4 harg4 arg5 harg5 arg6 harg6 arg7 harg7 v3 v212 v221 v223
  let ⟨v284, v293, v297⟩ : Σ' (v284 : FVec F S96x128 .f32) (v293 : FVec F S96x128 .f32), FVec F S96x256 .f32 ← k0_part140 i arg1 harg1 arg2 harg2 arg3 harg3 arg4 harg4 arg5 harg5 arg6 harg6 arg7 harg7 v3 v245 v249 v251 v260 c0_i32_131
  let ⟨v317, v321, v323, v332, v336⟩ : Σ' (v317 : FVec F S96x128 .f32) (v321 : FVec F S96x256 .f32) (v323 : FVec F S96x128 .f32) (v332 : FVec F S96x128 .f32), Elt F .f32 ← k0_part141 i arg1 harg1 arg2 harg2 arg3 harg3 arg4 harg4 arg5 harg5 arg6 harg6 arg7 harg7 v3 v284 v293 v297
  let ⟨v356, v365, v369, v371, v372, c0_i32_189⟩ : Σ' (v356 : FVec F S96x128 .f32) (v365 : FVec F S96x128 .f32) (v369 : FVec F S96x256 .f32) (v371 : FVec F S96x128 .f32) (v372 : BitVec 32), BitVec 32 ← k0_part142 i arg1 harg1 arg2 harg2 arg3 harg3 arg4 harg4 arg5 harg5 arg6 harg6 arg7 harg7 v3 v317 v321 v323 v332 v336
  let ⟨v404, v413⟩ : Σ' (v404 : FVec F S96x128 .f32), FVec F S96x128 .f32 ← k0_part143 i arg1 harg1 arg2 harg2 arg3 harg3 arg4 harg4 arg5 harg5 arg6 harg6 arg7 harg7 v3 v356 v365 v369 v371 v372 c0_i32_189
  let ⟨v428, v437, v441, v443, v447, v449⟩ : Σ' (v428 : FVec F S96x128 .f32) (v437 : FVec F S96x128 .f32) (v441 : FVec F S96x256 .f32) (v443 : FVec F S96x128 .f32) (v447 : Elt F .f32), FVec F S96x128 .f32 ← k0_part144 i arg1 harg1 arg2 harg2 arg3 harg3 arg4 harg4 arg5 harg5 arg6 harg6 arg7 harg7 v3 v404 v413
  let ⟨v476, v485, v487, v488⟩ : Σ' (v476 : FVec F S96x128 .f32) (v485 : FVec F S96x128 .f32) (v487 : FVec F S96x128 .fp8e4m3), Vec F S128x256 .fp8e4m3 ← k0_part145 i arg1 harg1 arg2 harg2 arg3 harg3 arg4 harg4 arg5 harg5 arg6 harg6 arg7 harg7 v3 v428 v437 v441 v443 v447 v449
  let ⟨v509, v513, v515, v524, v525, c1_i32_264⟩ : Σ' (v509 : FVec F S96x128 .f32) (v513 : FVec F S96x256 .f32) (v515 : FVec F S96x128 .f32) (v524 : FVec F S96x128 .f32) (v525 : BitVec 32), BitVec 32 ← k0_part146 i arg1 harg1 arg2 harg2 arg3 harg3 arg4 harg4 arg5 harg5 arg6 harg6 arg7 harg7 v3 v476 v485 v487 v488
  let ⟨v548, v557, v561, v562⟩ : Σ' (v548 : FVec F S96x128 .f32) (v557 : FVec F S96x128 .f32) (v561 : FVec F S96x256 .f32), Vec F S1x96x128 .f32 ← k0_part147 i arg1 harg1 arg2 harg2 arg3 harg3 arg4 harg4 arg5 harg5 arg6 harg6 arg7 harg7 v3 v509 v513 v515 v524 v525 c1_i32_264
  let ⟨v581, v596, v600, v602⟩ : Σ' (v581 : FVec F S96x128 .f32) (v596 : FVec F S96x128 .f32) (v600 : Elt F .f32), FVec F S96x128 .f32 ← k0_part148 i arg1 harg1 arg2 harg2 arg3 harg3 arg4 harg4 arg5 harg5 arg6 harg6 arg7 harg7 v3 v548 v557 v561 v562
  let ⟨v620, v629, v633, v635, v637⟩ : Σ' (v620 : FVec F S96x128 .f32) (v629 : FVec F S96x128 .f32) (v633 : FVec F S96x256 .f32) (v635 : FVec F S96x128 .f32), BitVec 32 ← k0_part149 i arg1 harg1 arg2 harg2 arg3 harg3 arg4 harg4 arg5 harg5 arg6 harg6 arg7 harg7 v3 v581 v596 v600 v602
  let ⟨v668, v677, v678⟩ : Σ' (v668 : FVec F S96x128 .f32) (v677 : FVec F S96x128 .f32), Vec F S96x128 .fp8e4m3 ← k0_part150 i arg1 harg1 arg2 harg2 arg3 harg3 arg4 harg4 arg5 harg5 arg6 harg6 arg7 harg7 v3 v620 v629 v633 v635 v637
  let ⟨v692, v701, v705, v707, v715⟩ : Σ' (v692 : FVec F S96x128 .f32) (v701 : FVec F S96x128 .f32) (v705 : FVec F S96x256 .f32) (v707 : FVec F S96x128 .f32), FVec F S96x128 .f32 ← k0_part151 i arg1 harg1 arg2 harg2 arg3 harg3 arg4 harg4 arg5 harg5 arg6 harg6 arg7 harg7 v3 v668 v677 v678
  let ⟨v740, v749, v753⟩ : Σ' (v740 : FVec F S96x128 .f32) (v749 : FVec F S96x128 .f32), FVec F S96x256 .f32 ← k0_part152 i arg1 harg1 arg2 harg2 arg3 harg3 arg4 harg4 arg5 harg5 arg6 harg6 arg7 harg7 v3 v692 v701 v705 v707 v715
  let ⟨v773, v777, v779, v788, v790⟩ : Σ' (v773 : FVec F S96x128 .f32) (v777 : FVec F S96x256 .f32) (v779 : FVec F S96x128 .f32) (v788 : FVec F S96x128 .f32), BitVec 32 ← k0_part153 i arg1 harg1 arg2 harg2 arg3 harg3 arg4 harg4 arg5 harg5 arg6 harg6 arg7 harg7 v3 v740 v749 v753
  let ⟨v812, v821, v825, v827, c0_i32_416⟩ : Σ' (v812 : FVec F S96x128 .f32) (v821 : FVec F S96x128 .f32) (v825 : FVec F S96x256 .f32) (v827 : FVec F S96x128 .f32), BitVec 32 ← k0_part154 i arg1 harg1 arg2 harg2 arg3 harg3 arg4 harg4 arg5 harg5 arg6 harg6 arg7 harg7 v3 v773 v777 v779 v788 v790
  let ⟨v845, v860, v868⟩ : Σ' (v845 : FVec F S96x128 .f32) (v860 : FVec F S96x128 .f32), FVec F S96x128 .f32 ← k0_part155 i arg1 harg1 arg2 harg2 arg3 harg3 arg4 harg4 arg5 harg5 arg6 harg6 arg7 harg7 v3 v812 v821 v825 v827 c0_i32_416
  let ⟨v884, v893, v897, v899, v903⟩ : Σ' (v884 : FVec F S96x128 .f32) (v893 : FVec F S96x128 .f32) (v897 : FVec F S96x256 .f32) (v899 : FVec F S96x128 .f32), Elt F .f32 ← k0_part156 i arg1 harg1 arg2 harg2 arg3 harg3 arg4 harg4 arg5 harg5 arg6 harg6 arg7 harg7 v3 v845 v860 v868
  let ⟨v932, v941, v943⟩ : Σ' (v932 : FVec F S96x128 .f32) (v941 : FVec F S96x128 .f32), FVec F S96x128 .fp8e4m3 ← k0_part157 i arg1 harg1 arg2 harg2 arg3 harg3 arg4 harg4 arg5 harg5 arg6 harg6 arg7 harg7 v3 v884 v893 v897 v899 v903
  let ⟨v965, v969, v971, v980, c0_i32_491⟩ : Σ' (v965 : FVec F S96x128 .f32) (v969 : FVec F S96x256 .f32) (v971 : FVec F S96x128 .f32) (v980 : FVec F S96x128 .f32), BitVec 32 ← k0_part158 i arg1 harg1 arg2 harg2 arg3 harg3 arg4 harg4 arg5 harg5 arg6 harg6 arg7 harg7 v3 v932 v941 v943
  let ⟨v1004, v1013, v1017⟩ : Σ' (v1004 : FVec F S96x128 .f32) (v1013 : FVec F S96x128 .f32), FVec F S96x256 .f32 ← k0_part159 i arg1 harg1 arg2 harg2 arg3 harg3 arg4 harg4 arg5 harg5 arg6 harg6 arg7 harg7 v3 v965 v969 v971 v980 c0_i32_491
  let ⟨v1037, v1041, v1043, v1052, v1056⟩ : Σ' (v1037 : FVec F S96x128 .f32) (v1041 : FVec F S96x256 .f32) (v1043 : FVec F S96x128 .f32) (v1052 : FVec F S96x128 .f32), Elt F .f32 ← k0_part160 i arg1 harg1 arg2 harg2 arg3 harg3 arg4 harg4 arg5 harg5 arg6 harg6 arg7 harg7 v3 v1004 v1013 v1017
  let ⟨v1076, v1085, v1089, v1091, v1092, c0_i32_549⟩ : Σ' (v1076 : FVec F S96x128 .f32) (v1085 : FVec F S96x128 .f32) (v1089 : FVec F S96x256 .f32) (v1091 : FVec F S96x128 .f32) (v1092 : BitVec 32), BitVec 32 ← k0_part161 i arg1 harg1 arg2 harg2 arg3 harg3 arg4 harg4 arg5 harg5 arg6 harg6 arg7 harg7 v3 v1037 v1041 v1043 v1052 v1056
  let ⟨v1124, v1133⟩ : Σ' (v1124 : FVec F S96x128 .f32), FVec F S96x128 .f32 ← k0_part162 i arg1 harg1 arg2 harg2 arg3 harg3 arg4 harg4 arg5 harg5 arg6 harg6 arg7 harg7 v3 v1076 v1085 v1089 v1091 v1092 c0_i32_549
  let ⟨v1148, v1157, v1161, v1163, v1167, v1169⟩ : Σ' (v1148 : FVec F S96x128 .f32) (v1157 : FVec F S96x128 .f32) (v1161 : FVec F S96x256 .f32) (v1163 : FVec F S96x128 .f32) (v1167 : Elt F .f32), FVec F S96x128 .f32 ← k0_part163 i arg1 harg1 arg2 harg2 arg3 harg3 arg4 harg4 arg5 harg5 arg6 harg6 arg7 harg7 v3 v1124 v1133
  let ⟨v1196, v1205, v1207, v1208⟩ : Σ' (v1196 : FVec F S96x128 .f32) (v1205 : FVec F S96x128 .f32) (v1207 : FVec F S96x128 .fp8e4m3), Vec F S128x256 .fp8e4m3 ← k0_part164 i arg1 harg1 arg2 harg2 arg3 harg3 arg4 harg4 arg5 harg5 arg6 harg6 arg7 harg7 v3 v1148 v1157 v1161 v1163 v1167 v1169
  let ⟨v1229, v1233, v1235, v1244, v1245, c1_i32_624⟩ : Σ' (v1229 : FVec F S96x128 .f32) (v1233 : FVec F S96x256 .f32) (v1235 : FVec F S96x128 .f32) (v1244 : FVec F S96x128 .f32) (v1245 : BitVec 32), BitVec 32 ← k0_part165 i arg1 harg1 arg2 harg2 arg3 harg3 arg4 harg4 arg5 harg5 arg6 harg6 arg7 harg7 v3 v1196 v1205 v1207 v1208
  let ⟨v1268, v1277, v1281, v1282⟩ : Σ' (v1268 : FVec F S96x128 .f32) (v1277 : FVec F S96x128 .f32) (v1281 : FVec F S96x256 .f32), Vec F S1x96x128 .f32 ← k0_part166 i arg1 harg1 arg2 harg2 arg3 harg3 arg4 harg4 arg5 harg5 arg6 harg6 arg7 harg7 v3 v1229 v1233 v1235 v1244 v1245 c1_i32_624
  let ⟨v1301, v1316, v1320, v1322⟩ : Σ' (v1301 : FVec F S96x128 .f32) (v1316 : FVec F S96x128 .f32) (v1320 : Elt F .f32), FVec F S96x128 .f32 ← k0_part167 i arg1 harg1 arg2 harg2 arg3 harg3 arg4 harg4 arg5 harg5 arg6 harg6 arg7 harg7 v3 v1268 v1277 v1281 v1282
  let ⟨v1354, v1355, v1357⟩ : Σ' (v1354 : FVec F S96x128 .f32) (v1355 : FVec F S96x128 .f32), FVec F S96x128 .fp8e4m3 ← k0_part168 i arg1 harg1 arg2 harg2 arg3 harg3 arg4 harg4 arg5 harg5 arg6 harg6 arg7 harg7 v3 v1301 v1316 v1320 v1322
  let ⟨v1379, v1383, v1385, v1394, c0_i32_704⟩ : Σ' (v1379 : FVec F S96x128 .f32) (v1383 : FVec F S96x256 .f32) (v1385 : FVec F S96x128 .f32) (v1394 : FVec F S96x128 .f32), BitVec 32 ← k0_part169 i arg1 harg1 arg2 harg2 arg3 harg3 arg4 harg4 arg5 harg5 arg6 harg6 arg7 harg7 v3 v1354 v1355 v1357
  let ⟨v1418, v1427, v1431⟩ : Σ' (v1418 : FVec F S96x128 .f32) (v1427 : FVec F S96x128 .f32), FVec F S96x256 .f32 ← k0_part170 i arg1 harg1 arg2 harg2 arg3 harg3 arg4 harg4 arg5 harg5 arg6 harg6 arg7 harg7 v3 v1379 v1383 v1385 v1394 c0_i32_704
  let ⟨v1451, v1455, v1457, v1466, v1470⟩ : Σ' (v1451 : FVec F S96x128 .f32) (v1455 : FVec F S96x256 .f32) (v1457 : FVec F S96x128 .f32) (v1466 : FVec F S96x128 .f32), Elt F .f32 ← k0_part171 i arg1 harg1 arg2 harg2 arg3 harg3 arg4 harg4 arg5 harg5 arg6 harg6 arg7 harg7 v3 v1418 v1427 v1431
  let ⟨v1490, v1499, v1503, v1505, v1506, c0_i32_772⟩ : Σ' (v1490 : FVec F S96x128 .f32) (v1499 : FVec F S96x128 .f32) (v1503 : FVec F S96x256 .f32) (v1505 : FVec F S96x128 .f32) (v1506 : BitVec 32), BitVec 32 ← k0_part172 i arg1 harg1 arg2 harg2 arg3 harg3 arg4 harg4 arg5 harg5 arg6 harg6 arg7 harg7 v3 v1451 v1455 v1457 v1466 v1470
  let ⟨v1538, v1547⟩ : Σ' (v1538 : FVec F S96x128 .f32), FVec F S96x128 .f32 ← k0_part173 i arg1 harg1 arg2 harg2 arg3 harg3 arg4 harg4 arg5 harg5 arg6 harg6 arg7 harg7 v3 v1490 v1499 v1503 v1505 v1506 c0_i32_772
  let ⟨v1562, v1571, v1575, v1577, v1581, v1583⟩ : Σ' (v1562 : FVec F S96x128 .f32) (v1571 : FVec F S96x128 .f32) (v1575 : FVec F S96x256 .f32) (v1577 : FVec F S96x128 .f32) (v1581 : Elt F .f32), FVec F S96x128 .f32 ← k0_part174 i arg1 harg1 arg2 harg2 arg3 harg3 arg4 harg4 arg5 harg5 arg6 harg6 arg7 harg7 v3 v1538 v1547
  let ⟨v1610, v1619, v1621, v1622⟩ : Σ' (v1610 : FVec F S96x128 .f32) (v1619 : FVec F S96x128 .f32) (v1621 : FVec F S96x128 .fp8e4m3), Vec F S128x256 .fp8e4m3 ← k0_part175 i arg1 harg1 arg2 harg2 arg3 harg3 arg4 harg4 arg5 harg5 arg6 harg6 arg7 harg7 v3 v1562 v1571 v1575 v1577 v1581 v1583
  let ⟨v1643, v1647, v1649, v1658, v1659, c1_i32_859⟩ : Σ' (v1643 : FVec F S96x128 .f32) (v1647 : FVec F S96x256 .f32) (v1649 : FVec F S96x128 .f32) (v1658 : FVec F S96x128 .f32) (v1659 : BitVec 32), BitVec 32 ← k0_part176 i arg1 harg1 arg2 harg2 arg3 harg3 arg4 harg4 arg5 harg5 arg6 harg6 arg7 harg7 v3 v1610 v1619 v1621 v1622
  let ⟨v1682, v1691, v1695, v1696⟩ : Σ' (v1682 : FVec F S96x128 .f32) (v1691 : FVec F S96x128 .f32) (v1695 : FVec F S96x256 .f32), Vec F S1x96x128 .f32 ← k0_part177 i arg1 harg1 arg2 harg2 arg3 harg3 arg4 harg4 arg5 harg5 arg6 harg6 arg7 harg7 v3 v1643 v1647 v1649 v1658 v1659 c1_i32_859
  let ⟨v1715, v1730, v1734, v1736⟩ : Σ' (v1715 : FVec F S96x128 .f32) (v1730 : FVec F S96x128 .f32) (v1734 : Elt F .f32), FVec F S96x128 .f32 ← k0_part178 i arg1 harg1 arg2 harg2 arg3 harg3 arg4 harg4 arg5 harg5 arg6 harg6 arg7 harg7 v3 v1682 v1691 v1695 v1696
  let ⟨v1754, v1763, v1767, v1769, v1771⟩ : Σ' (v1754 : FVec F S96x128 .f32) (v1763 : FVec F S96x128 .f32) (v1767 : FVec F S96x256 .f32) (v1769 : FVec F S96x128 .f32), BitVec 32 ← k0_part179 i arg1 harg1 arg2 harg2 arg3 harg3 arg4 harg4 arg5 harg5 arg6 harg6 arg7 harg7 v3 v1715 v1730 v1734 v1736
  let ⟨v1802, v1811, v1812⟩ : Σ' (v1802 : FVec F S96x128 .f32) (v1811 : FVec F S96x128 .f32), Vec F S96x128 .fp8e4m3 ← k0_part180 i arg1 harg1 arg2 harg2 arg3 harg3 arg4 harg4 arg5 harg5 arg6 harg6 arg7 harg7 v3 v1754 v1763 v1767 v1769 v1771
  let ⟨v1826, v1835, v1839, v1841, v1849⟩ : Σ' (v1826 : FVec F S96x128 .f32) (v1835 : FVec F S96x128 .f32) (v1839 : FVec F S96x256 .f32) (v1841 : FVec F S96x128 .f32), FVec F S96x128 .f32 ← k0_part181 i arg1 harg1 arg2 harg2 arg3 harg3 arg4 harg4 arg5 harg5 arg6 harg6 arg7 harg7 v3 v1802 v1811 v1812
  let ⟨v1874, v1883, v1887⟩ : Σ' (v1874 : FVec F S96x128 .f32) (v1883 : FVec F S96x128 .f32), FVec F S96x256 .f32 ← k0_part182 i arg1 harg1 arg2 harg2 arg3 harg3 arg4 harg4 arg5 harg5 arg6 harg6 arg7 harg7 v3 v1826 v1835 v1839 v1841 v1849
  let ⟨v1907, v1911, v1913, v1922, v1924⟩ : Σ' (v1907 : FVec F S96x128 .f32) (v1911 : FVec F S96x256 .f32) (v1913 : FVec F S96x128 .f32) (v1922 : FVec F S96x128 .f32), BitVec 32 ← k0_part183 i arg1 harg1 arg2 harg2 arg3 harg3 arg4 harg4 arg5 harg5 arg6 harg6 arg7 harg7 v3 v1874 v1883 v1887
  let ⟨v1946, v1955, v1959, v1961, c0_i32_1037⟩ : Σ' (v1946 : FVec F S96x128 .f32) (v1955 : FVec F S96x128 .f32) (v1959 : FVec F S96x256 .f32) (v1961 : FVec F S96x128 .f32), BitVec 32 ← k0_part184 i arg1 harg1 arg2 harg2 arg3 harg3 arg4 harg4 arg5 harg5 arg6 harg6 arg7 harg7 v3 v1907 v1911 v1913 v1922 v1924
  let ⟨v1979, v1994, v2002⟩ : Σ' (v1979 : FVec F S96x128 .f32) (v1994 : FVec F S96x128 .f32), FVec F S96x128 .f32 ← k0_part185 i arg1 harg1 arg2 harg2 arg3 harg3 arg4 harg4 arg5 harg5 arg6 harg6 arg7 harg7 v3 v1946 v1955 v1959 v1961 c0_i32_1037
  let ⟨v2018, v2027, v2031, v2033, v2037⟩ : Σ' (v2018 : FVec F S96x128 .f32) (v2027 : FVec F S96x128 .f32) (v2031 : FVec F S96x256 .f32) (v2033 : FVec F S96x128 .f32), Elt F .f32 ← k0_part186 i arg1 harg1 arg2 harg2 arg3 harg3 arg4 harg4 arg5 harg5 arg6 harg6 arg7 harg7 v3 v1979 v1994 v2002
  let ⟨v2066, v2075, v2077⟩ : Σ' (v2066 : FVec F S96x128 .f32) (v2075 : FVec F S96x128 .f32), FVec F S96x128 .fp8e4m3 ← k0_part187 i arg1 harg1 arg2 harg2 arg3 harg3 arg4 harg4 arg5 harg5 arg6 harg6 arg7 harg7 v3 v2018 v2027 v2031 v2033 v2037
  let ⟨v2099, v2103, v2105, v2114, c0_i32_1124⟩ : Σ' (v2099 : FVec F S96x128 .f32) (v2103 : FVec F S96x256 .f32) (v2105 : FVec F S96x128 .f32) (v2114 : FVec F S96x128 .f32), BitVec 32 ← k0_part188 i arg1 harg1 arg2 harg2 arg3 harg3 arg4 harg4 arg5 harg5 arg6 harg6 arg7 harg7 v3 v2066 v2075 v2077
  let ⟨v2138, v2147, v2151⟩ : Σ' (v2138 : FVec F S96x128 .f32) (v2147 : FVec F S96x128 .f32), FVec F S96x256 .f32 ← k0_part189 i arg1 harg1 arg2 harg2 arg3 harg3 arg4 harg4 arg5 harg5 arg6 harg6 arg7 harg7 v3 v2099 v2103 v2105 v2114 c0_i32_1124
  let ⟨v2171, v2175, v2177, v2186, v2190⟩ : Σ' (v2171 : FVec F S96x128 .f32) (v2175 : FVec F S96x256 .f32) (v2177 : FVec F S96x128 .f32) (v2186 : FVec F S96x128 .f32), Elt F .f32 ← k0_part190 i arg1 harg1 arg2 harg2 arg3 harg3 arg4 harg4 arg5 harg5 arg6 harg6 arg7 harg7 v3 v2138 v2147 v2151
  let ⟨v2210, v2219, v2223, v2225, v2226, c0_i32_1192⟩ : Σ' (v2210 : FVec F S96x128 .f32) (v2219 : FVec F S96x128 .f32) (v2223 : FVec F S96x256 .f32) (v2225 : FVec F S96x128 .f32) (v2226 : BitVec 32), BitVec 32 ← k0_part191 i arg1 harg1 arg2 harg2 arg3 harg3 arg4 harg4 arg5 harg5 arg6 harg6 arg7 harg7 v3 v2171 v2175 v2177 v2186 v2190
  let ⟨v2258, v2267⟩ : Σ' (v2258 : FVec F S96x128 .f32), FVec F S96x128 .f32 ← k0_part192 i arg1 harg1 arg2 harg2 arg3 harg3 arg4 harg4 arg5 harg5 arg6 harg6 arg7 harg7 v3 v2210 v2219 v2223 v2225 v2226 c0_i32_1192
  pure ⟨v3, v2258, v2267⟩

/-- The multiplying stretch. -/
def mainBody (i : grid0.Coords) (arg1 : Memref sig .tc .smem S56x64 .f32) (harg1 : arg1.IsWhole) (arg2 : Memref sig .tc .vmem S192x7168 .bf16) (harg2 : arg2.IsWhole) (arg3 : Memref sig .tc .vmem S7168x512 .fp8e4m3) (harg3 : arg3.IsWhole) (arg4 : Memref sig .tc .vmem S192x512 .bf16) (harg4 : arg4.IsWhole) (arg5 : Memref sig .tc .vmem S192x7168 .fp8e4m3) (harg5 : arg5.IsWhole) (arg6 : Memref sig .tc .vmem S192x56 .f32) (harg6 : arg6.IsWhole) (arg7 : Memref sig .tc .vmem S56x192x128 .f32) (harg7 : arg7.IsWhole) :
    Prog (TpuEff nD τ sig (Elt F) Λ₀ .tc) PUnit := do
  let ⟨v3, v2258, v2267⟩ : Σ' (v3 : BitVec 32) (v2258 : FVec F S96x128 .f32), FVec F S96x128 .f32 ← rest275 i arg1 harg1 arg2 harg2 arg3 harg3 arg4 harg4 arg5 harg5 arg6 harg6 arg7 harg7
  let ⟨v4526, v4535⟩ : Σ' (v4526 : FVec F S96x128 .f32), FVec F S96x128 .f32 ← k0_part276 i arg1 harg1 arg2 harg2 arg3 harg3 arg4 harg4 arg5 harg5 arg6 harg6 arg7 harg7 v3 v2258 v2267
  let ⟨v5375, v5379, v5381, v5390, v5391, c1_i32_3040⟩ : Σ' (v5375 : FVec F S96x128 .f32) (v5379 : FVec F S96x256 .f32) (v5381 : FVec F S96x128 .f32) (v5390 : FVec F S96x128 .f32) (v5391 : BitVec 32), BitVec 32 ← k0_part277 i arg1 harg1 arg2 harg2 arg3 harg3 arg4 harg4 arg5 harg5 arg6 harg6 arg7 harg7 v3 v4526 v4535
  let v5394 : Elt F .f32 ← smemLoad arg1 (Rect.unit (s := S56x64) (k0_off56 i 2#32 1#32) S1x1.size (k0_off56_inb i 1 1)) numel1_S1x1 rfl
  let v5401 : Vec F S96x128 .bf16 ← Prog.lift (.load arg4 (Rect.unit (s := S192x512) ![96, 256] S96x128.size inb_S192x512_S96x128_96_256).toLoadRect (View.loadsAt_vmem h_S96x128))
  Prog.lift (.store arg4 (Rect.unit (s := S192x512) ![96, 256] S96x128.size inb_S192x512_S96x128_96_256) (k0_pay1 v5390) Finset.univ (View.stores_vmem h_S96x128 (harg4.storeExact_slice rfl _ packedbf16_S192x512_S96x128_96_256) (fun _ => rfl)) (.inl rfl))
  let v5403 : Vec F S96x128 .bf16 ← Prog.lift (.load arg4 (Rect.unit (s := S192x512) ![96, 384] S96x128.size inb_S192x512_S96x128_96_384).toLoadRect (View.loadsAt_vmem h_S96x128))
  Prog.lift (.store arg4 (Rect.unit (s := S192x512) ![96, 384] S96x128.size inb_S192x512_S96x128_96_384) (k0_pay2 v5375 v5379 v5381 v5394) Finset.univ (View.stores_vmem h_S96x128 (harg4.storeExact_slice rfl _ packedbf16_S192x512_S96x128_96_384) (fun _ => rfl)) (.inl rfl))
  pure ⟨⟩

/-- The part of the body the condition stands in, by cases of the condition. -/
theorem part133_eq (i : grid0.Coords) (arg1 : Memref sig .tc .smem S56x64 .f32) (harg1 : arg1.IsWhole) (arg2 : Memref sig .tc .vmem S192x7168 .bf16) (harg2 : arg2.IsWhole) (arg3 : Memref sig .tc .vmem S7168x512 .fp8e4m3) (harg3 : arg3.IsWhole) (arg4 : Memref sig .tc .vmem S192x512 .bf16) (harg4 : arg4.IsWhole) (arg5 : Memref sig .tc .vmem S192x7168 .fp8e4m3) (harg5 : arg5.IsWhole) (arg6 : Memref sig .tc .vmem S192x56 .f32) (harg6 : arg6.IsWhole) (arg7 : Memref sig .tc .vmem S56x192x128 .f32) (harg7 : arg7.IsWhole) :
    k0_part133 (F := F) i arg1 harg1 arg2 harg2 arg3 harg3 arg4 harg4 arg5 harg5 arg6 harg6 arg7 harg7
      = if k0_cond1 i = 1#1 then (quant i arg1 harg1 arg2 harg2 arg3 harg3 arg4 harg4 arg5 harg5 arg6 harg6 arg7 harg7 >>= fun _ => rest133 i arg1 harg1 arg2 harg2 arg3 harg3 arg4 harg4 arg5 harg5 arg6 harg6 arg7 harg7) else rest133 i arg1 harg1 arg2 harg2 arg3 harg3 arg4 harg4 arg5 harg5 arg6 harg6 arg7 harg7 := by
  rw [k0_part133_eq_skeleton]
  unfold k0_part133_skel
  by_cases h : k0_cond1 i = 1#1
  · rw [if_pos h]
    simp only [h, dite_true]
    unfold quant
    simp only [bind_assoc]
    rfl
  · rw [if_neg h]
    simp only [h, dite_false]
    rfl

/-- The first sixty parts, by cases of the condition. -/
theorem part275_eq (i : grid0.Coords) (arg1 : Memref sig .tc .smem S56x64 .f32) (harg1 : arg1.IsWhole) (arg2 : Memref sig .tc .vmem S192x7168 .bf16) (harg2 : arg2.IsWhole) (arg3 : Memref sig .tc .vmem S7168x512 .fp8e4m3) (harg3 : arg3.IsWhole) (arg4 : Memref sig .tc .vmem S192x512 .bf16) (harg4 : arg4.IsWhole) (arg5 : Memref sig .tc .vmem S192x7168 .fp8e4m3) (harg5 : arg5.IsWhole) (arg6 : Memref sig .tc .vmem S192x56 .f32) (harg6 : arg6.IsWhole) (arg7 : Memref sig .tc .vmem S56x192x128 .f32) (harg7 : arg7.IsWhole) :
    k0_part275 (F := F) i arg1 harg1 arg2 harg2 arg3 harg3 arg4 harg4 arg5 harg5 arg6 harg6 arg7 harg7
      = if k0_cond1 i = 1#1 then (quant i arg1 harg1 arg2 harg2 arg3 harg3 arg4 harg4 arg5 harg5 arg6 harg6 arg7 harg7 >>= fun _ => rest275 i arg1 harg1 arg2 harg2 arg3 harg3 arg4 harg4 arg5 harg5 arg6 harg6 arg7 harg7) else rest275 i arg1 harg1 arg2 harg2 arg3 harg3 arg4 harg4 arg5 harg5 arg6 harg6 arg7 harg7 := by
  rw [k0_part275_eq_skeleton]
  unfold k0_part275_skel
  rw [part133_eq]
  by_cases h : k0_cond1 i = 1#1
  · rw [if_pos h, if_pos h, bind_assoc]; rfl
  · rw [if_neg h, if_neg h]; rfl

/-- The body, by cases of the condition. -/
theorem body_split (i : grid0.Coords) (arg1 : Memref sig .tc .smem S56x64 .f32) (harg1 : arg1.IsWhole) (arg2 : Memref sig .tc .vmem S192x7168 .bf16) (harg2 : arg2.IsWhole) (arg3 : Memref sig .tc .vmem S7168x512 .fp8e4m3) (harg3 : arg3.IsWhole) (arg4 : Memref sig .tc .vmem S192x512 .bf16) (harg4 : arg4.IsWhole) (arg5 : Memref sig .tc .vmem S192x7168 .fp8e4m3) (harg5 : arg5.IsWhole) (arg6 : Memref sig .tc .vmem S192x56 .f32) (harg6 : arg6.IsWhole) (arg7 : Memref sig .tc .vmem S56x192x128 .f32) (harg7 : arg7.IsWhole) :
    cc0__body (F := F) i arg1 harg1 arg2 harg2 arg3 harg3 arg4 harg4 arg5 harg5 arg6 harg6 arg7 harg7
      = if k0_cond1 i = 1#1 then (quant i arg1 harg1 arg2 harg2 arg3 harg3 arg4 harg4 arg5 harg5 arg6 harg6 arg7 harg7 >>= fun _ => mainBody i arg1 harg1 arg2 harg2 arg3 harg3 arg4 harg4 arg5 harg5 arg6 harg6 arg7 harg7) else mainBody i arg1 harg1 arg2 harg2 arg3 harg3 arg4 harg4 arg5 harg5 arg6 harg6 arg7 harg7 := by
  rw [cc0__body_eq_skeleton]
  unfold cc0__body_skel
  rw [part275_eq]
  by_cases h : k0_cond1 i = 1#1
  · rw [if_pos h, if_pos h, bind_assoc]; rfl
  · rw [if_neg h, if_neg h]; rfl

end Cert.Kernel.Gen

end
-- ==== Proof.BitsSpec.lean ====
module

public import proofs.«01_k».proof.Proof.BitsSplit

@[expose] public section

/-! # What the kernel body computes, block by block

The body is written out group after group. Here each of its blocks is stated once, as a function of the group (and
of the tile of the result), over the vectors the operands hold:

* `codesG`, `scaleG` of one group's 192 x 128 activations: its codes and its scale, in every lane;
* `scaleOut`: the array of scales, one select per group;
* `accY`: the sum over the groups a tile of the result accumulates.

The arrays the body leaves are the lists of these blocks: `codePieces`, `xsPieces`, `yPieces`.

This module speaks of the kernel at its machine formats; its namesake without `Bits` speaks of the same text read over the
extended reals, which is printed as a program of its own. -/

set_option maxRecDepth 16384

noncomputable section

namespace Cert.Kernel.Gen

open Idealize.ShloMosaic Idealize.ShloMosaic.TcCoe Idealize.ShloMosaic.Tactic
open Idealize.SL Idealize.SL.Sem

variable {F : FTy → Type} [FloatOps F]

/-! ## The quantiser of one group -/

/-- The activations of a group as 32-bit floats. -/
def valG (v : Vec F S192x128 .bf16) : FVec F S192x128 .f32 :=
  extf .f32 (shapeCast S192x128 v shapeCasts_S192x128_S192x128) bitsLt_bf16_f32

/-- The group's largest magnitude, row by row, times the constant 1/448, in every lane. -/
def tG (v : Vec F S192x128 .bf16) : FVec F S192x128 .f32 :=
  mulf (broadcastTo S192x128 (shapeCast S192x1 (shapeCast S192x1
      (multiReduction .maximumf [1] S192 (absf (valG v)) 0xFF800000#32 reduces_S192x128_S192 (.inl rfl) rfl)
      shapeCasts_S192_S192x1) shapeCasts_S192x1_S192x1) broadcasts_S192x1_S192x128)
    (broadcast S192x128 (Scalar.ofBits .f32 0x3B124925#32))

/-- One step of the search for the exponent field: keep the bit `k` unless `t` is below the float it gives. -/
def fieldStep (t : FVec F S192x128 .f32) (k : BitVec 32) (f : IVec S192x128 32) : IVec S192x128 32 :=
  select (cmpf .olt t (bitcastToFloat .f32 (shli (addi f (broadcast S192x128 k)) (broadcast S192x128 23#32)))) f
    (addi f (broadcast S192x128 k))

/-- The exponent field, bit by bit. -/
def fieldG (t : FVec F S192x128 .f32) : IVec S192x128 32 :=
  fieldStep t 1#32 (fieldStep t 2#32 (fieldStep t 4#32 (fieldStep t 8#32 (fieldStep t 16#32 (fieldStep t 32#32
    (fieldStep t 64#32 (fieldStep t 128#32 (broadcast S192x128 0#32))))))))

/-- The exponent of the scale. -/
def expG (t : FVec F S192x128 .f32) : IVec S192x128 32 :=
  select (ori (cmpf .oeq t (broadcast S192x128 (Scalar.ofBits .f32 0x00000000#32)))
      (cmpi .eq (fieldG t) (broadcast S192x128 255#32)))
    (broadcast S192x128 0#32) (subi (fieldG t) (broadcast S192x128 126#32))

/-- The scale of a group, in every lane. -/
def scaleG (v : Vec F S192x128 .bf16) : FVec F S192x128 .f32 :=
  bitcastToFloat .f32 (shli (addi (expG (tG v)) (broadcast S192x128 127#32)) (broadcast S192x128 23#32))

/-- Its inverse. -/
def invG (v : Vec F S192x128 .bf16) : FVec F S192x128 .f32 :=
  bitcastToFloat .f32 (shli (subi (broadcast S192x128 127#32) (expG (tG v))) (broadcast S192x128 23#32))

/-- The codes of a group. -/
def codesG (v : Vec F S192x128 .bf16) : FVec F S192x128 .fp8e4m3 :=
  truncf .fp8e4m3 (minimumf (broadcast S192x128 (Scalar.ofBits .f32 0x43E00000#32))
    (maximumf (broadcast S192x128 (Scalar.ofBits .f32 0xC3E00000#32)) (mulf (valG v) (invG v)))) bitsLt_fp8e4m3_f32

/-! ## The quantiser's stores -/

theorem inb_col (g : ℕ) : ∀ a, (![0, 128 * (g % 56)] : Fin 2 → ℕ) a + S192x128.size a ≤ S192x7168.size a := by
  have h : g % 56 < 56 := Nat.mod_lt _ (by decide)
  intro a
  fin_cases a
  · show 0 + 192 ≤ 192; omega
  · show 128 * (g % 56) + 128 ≤ 7168; omega

/-- The columns of group `g`. -/
def colR (g : ℕ) : Rect S192x7168 := Rect.unit ![0, 128 * (g % 56)] S192x128.size (inb_col g)

theorem inb_xs (g : ℕ) : ∀ a, (![g % 56, 0, 0] : Fin 3 → ℕ) a + S1x192x128.size a ≤ S56x192x128.size a := by
  have h : g % 56 < 56 := Nat.mod_lt _ (by decide)
  intro a
  fin_cases a
  · show g % 56 + 1 ≤ 56; omega
  · show 0 + 192 ≤ 192; omega
  · show 0 + 128 ≤ 128; omega

/-- The plane of group `g`. -/
def xsR (g : ℕ) : Rect S56x192x128 := Rect.unit ![g % 56, 0, 0] S1x192x128.size (inb_xs g)

/-- The activations of group `g`. -/
def blkX (x : Vec F S192x7168 .bf16) (g : ℕ) : Vec F S192x128 .bf16 := View.ld x (colR g)

/-- The codes stored, the last group first. -/
def codePieces (x : Vec F S192x7168 .bf16) : ℕ → List (View.Piece (Elt F) S192x7168 .fp8e4m3)
  | 0 => []
  | g + 1 => ⟨colR g, codesG (blkX x g)⟩ :: codePieces x g

/-- The scales stored for the multiplication, the last group first. -/
def xsPieces (x : Vec F S192x7168 .bf16) : ℕ → List (View.Piece (Elt F) S56x192x128 .f32)
  | 0 => []
  | g + 1 => ⟨xsR g, shapeCast S1x192x128 (scaleG (blkX x g)) shapeCasts_S192x128_S1x192x128⟩ :: xsPieces x g

/-- The array of scales after `g` groups. -/
def scaleOut (x : Vec F S192x7168 .bf16) : ℕ → FVec F S192x56 .f32
  | 0 => broadcast S192x56 (Scalar.ofBits .f32 0x00000000#32)
  | g + 1 => select (cmpi .eq (iota .tc S192x56 32 [1] iota_S192x56_d1_w32) (broadcast S192x56 (BitVec.ofNat 32 g)))
      (extractStridedSlice S192x56 ![0, 0] (scaleG (blkX x g)) slices_S192x128_o0_0_S192x56) (scaleOut x g)

/-- The codes of all groups. -/
def codesAll (x : Vec F S192x7168 .bf16) : Vec F S192x7168 .fp8e4m3 := View.canon (codePieces x 56)

/-- The scales of all groups, in every lane. -/
def xsAll (x : Vec F S192x7168 .bf16) : Vec F S56x192x128 .f32 := View.canon (xsPieces x 56)

/-- The array of scales. -/
def scaleAll (x : Vec F S192x7168 .bf16) : Vec F S192x56 .f32 := scaleOut x 56

/-! ## A tile of the result -/

theorem inb_cc (m : Fin 2) (g : ℕ) :
    ∀ a, (![96 * m.val, 128 * (g % 56)] : Fin 2 → ℕ) a + S96x128.size a ≤ S192x7168.size a := by
  have h : g % 56 < 56 := Nat.mod_lt _ (by decide)
  have hm := m.isLt
  intro a
  fin_cases a
  · show 96 * m.val + 96 ≤ 192; omega
  · show 128 * (g % 56) + 128 ≤ 7168; omega

/-- Rows half `m`, columns of group `g`, of the codes. -/
def ccR (m : Fin 2) (g : ℕ) : Rect S192x7168 := Rect.unit ![96 * m.val, 128 * (g % 56)] S96x128.size (inb_cc m g)

theorem inb_ww (n : Fin 2) (g : ℕ) :
    ∀ a, (![128 * (g % 56), 256 * n.val] : Fin 2 → ℕ) a + S128x256.size a ≤ S7168x512.size a := by
  have h : g % 56 < 56 := Nat.mod_lt _ (by decide)
  have hn := n.isLt
  intro a
  fin_cases a
  · show 128 * (g % 56) + 128 ≤ 7168; omega
  · show 256 * n.val + 256 ≤ 512; omega

/-- Rows of group `g`, columns half `n`, of the weights. -/
def wwR (n : Fin 2) (g : ℕ) : Rect S7168x512 := Rect.unit ![128 * (g % 56), 256 * n.val] S128x256.size (inb_ww n g)

theorem inb_ss (m : Fin 2) (g : ℕ) :
    ∀ a, (![g % 56, 96 * m.val, 0] : Fin 3 → ℕ) a + S1x96x128.size a ≤ S56x192x128.size a := by
  have h : g % 56 < 56 := Nat.mod_lt _ (by decide)
  have hm := m.isLt
  intro a
  fin_cases a
  · show g % 56 + 1 ≤ 56; omega
  · show 96 * m.val + 96 ≤ 192; omega
  · show 0 + 128 ≤ 128; omega

/-- Plane `g`, rows half `m`, of the scales. -/
def ssR (m : Fin 2) (g : ℕ) : Rect S56x192x128 := Rect.unit ![g % 56, 96 * m.val, 0] S1x96x128.size (inb_ss m g)

/-- Where the scale of the weights' block of group `g` and column block `2 n + j` of the point stands. -/
def wsOff (i : grid0.Coords) (g : ℕ) (n j : Fin 2) : Fin 2 → ℕ :=
  ![g % 56, k0_off1 i (BitVec.ofNat 32 (2 * n.val)) (BitVec.ofNat 32 j.val) 1]

theorem inb_wsOff (i : grid0.Coords) (g : ℕ) (n j : Fin 2) : ∀ a, wsOff i g n j a + S1x1.size a ≤ S56x64.size a := by
  have h : g % 56 < 56 := Nat.mod_lt _ (by decide)
  have h1 := k0_off1_inb i n j 1
  intro a
  fin_cases a
  · show g % 56 + 1 ≤ 56; omega
  · exact h1

/-- That scale. -/
def wsG (w0 : Vec F S56x64 .f32) (i : grid0.Coords) (g : ℕ) (n j : Fin 2) : Elt F .f32 :=
  View.ld w0 (Rect.unit (s := S56x64) (wsOff i g n j) S1x1.size (inb_wsOff i g n j)) (Shape.Idx.first (s := S1x1) (by decide))

/-- The products of one group: codes by weights. -/
def partY (w2 : Vec F S7168x512 .fp8e4m3) (c4 : Vec F S192x7168 .fp8e4m3) (n m : Fin 2) (g : ℕ) : FVec F S96x256 .f32 :=
  matmul dot_S96x128_S128x256_S96x256_1_0_0_1_n_n none
    (shapeCast S96x128 (View.ld c4 (ccR m g)) shapeCasts_S96x128_S96x128) (View.ld w2 (wwR n g))
    (constant S96x256 .f32 0x00000000#32)

theorem slices_half (j : Fin 2) : S96x256.Slices ![0, 128 * j.val] S96x128 := by
  have hj := j.isLt
  refine ⟨rfl, fun a => ?_⟩
  fin_cases a
  · show 0 + 96 ≤ 96; omega
  · show 128 * j.val + 128 ≤ 256; omega

/-- The sum over the first `g` groups, at rows half `m` and columns `256 n + 128 j` on. -/
def accY (w0 : Vec F S56x64 .f32) (w2 : Vec F S7168x512 .fp8e4m3) (c4 : Vec F S192x7168 .fp8e4m3)
    (s6 : Vec F S56x192x128 .f32) (i : grid0.Coords) (n m j : Fin 2) : ℕ → FVec F S96x128 .f32
  | 0 => broadcast S96x128 (Scalar.ofBits .f32 0x00000000#32)
  | g + 1 => addf (accY w0 w2 c4 s6 i n m j g)
      (mulf (mulf (extractStridedSlice S96x128 ![0, 128 * j.val] (partY w2 c4 n m g) (slices_half j))
          (shapeCast S96x128 (View.ld s6 (ssR m g)) shapeCasts_S1x96x128_S96x128))
        (broadcast S96x128 (wsG w0 i g n j)))

theorem inb_yy (n m j : Fin 2) :
    ∀ a, (![96 * m.val, 256 * n.val + 128 * j.val] : Fin 2 → ℕ) a + S96x128.size a ≤ S192x512.size a := by
  have hn := n.isLt
  have hm := m.isLt
  have hj := j.isLt
  intro a
  fin_cases a
  · show 96 * m.val + 96 ≤ 192; omega
  · show 256 * n.val + 128 * j.val + 128 ≤ 512; omega

/-- Where the tile stands in the point's block of the result. -/
def yyR (n m j : Fin 2) : Rect S192x512 :=
  Rect.unit ![96 * m.val, 256 * n.val + 128 * j.val] S96x128.size (inb_yy n m j)

/-- The tile stored. -/
def yPiece (w0 : Vec F S56x64 .f32) (w2 : Vec F S7168x512 .fp8e4m3) (c4 : Vec F S192x7168 .fp8e4m3)
    (s6 : Vec F S56x192x128 .f32) (i : grid0.Coords) (n m j : Fin 2) : View.Piece (Elt F) S192x512 .bf16 :=
  ⟨yyR n m j, truncf .bf16 (accY w0 w2 c4 s6 i n m j 56) bitsLt_bf16_f32⟩

/-- The eight tiles of the point's block, the last first. -/
def yPieces (w0 : Vec F S56x64 .f32) (w2 : Vec F S7168x512 .fp8e4m3) (c4 : Vec F S192x7168 .fp8e4m3)
    (s6 : Vec F S56x192x128 .f32) (i : grid0.Coords) : List (View.Piece (Elt F) S192x512 .bf16) :=
  [yPiece w0 w2 c4 s6 i 1 1 1, yPiece w0 w2 c4 s6 i 1 1 0, yPiece w0 w2 c4 s6 i 1 0 1, yPiece w0 w2 c4 s6 i 1 0 0,
    yPiece w0 w2 c4 s6 i 0 1 1, yPiece w0 w2 c4 s6 i 0 1 0, yPiece w0 w2 c4 s6 i 0 0 1, yPiece w0 w2 c4 s6 i 0 0 0]

/-- The point's block of the result. -/
def yBlk (w0 : Vec F S56x64 .f32) (w2 : Vec F S7168x512 .fp8e4m3) (c4 : Vec F S192x7168 .fp8e4m3)
    (s6 : Vec F S56x192x128 .f32) (i : grid0.Coords) : Vec F S192x512 .bf16 := View.canon (yPieces w0 w2 c4 s6 i)

end Cert.Kernel.Gen

end
-- ==== Proof.BitsMainRun.lean ====
module

public import proofs.«01_k».proof.Proof.BitsSpec

@[expose] public section

/-! # The multiplying stretch

Run on whole operands holding the codes and the scales, it leaves the point's block of the result at `yBlk`.

This module speaks of the kernel at its machine formats; its namesake without `Bits` speaks of the same text read over the
extended reals, which is printed as a program of its own. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The eight tiles fill the block. -/
theorem yPieces_cover (w0 : Vec F S56x64 .f32) (w2 : Vec F S7168x512 .fp8e4m3) (c4 : Vec F S192x7168 .fp8e4m3)
    (s6 : Vec F S56x192x128 .f32) (i : grid0.Coords) (y : S192x512.Idx) :
    ∃ p ∈ yPieces w0 w2 c4 s6 i, y ∈ p.1.set := by
  have h0 : (y 0).val < 192 := (y 0).isLt
  have h1 : (y 1).val < 512 := (y 1).isLt
  have key : ∀ n m j : Fin 2, (96 * m.val ≤ (y 0).val ∧ (y 0).val < 96 * m.val + 96) →
      (256 * n.val + 128 * j.val ≤ (y 1).val ∧ (y 1).val < 256 * n.val + 128 * j.val + 128) →
      y ∈ (yPiece w0 w2 c4 s6 i n m j).1.set := by
    intro n m j e0 e1
    unfold yPiece yyR
    dsimp only
    rw [Rect.mem_set_unit]
    intro a
    fin_cases a
    · exact e0
    · exact e1
  have hm : ∀ n m j : Fin 2, yPiece w0 w2 c4 s6 i n m j ∈ yPieces w0 w2 c4 s6 i := by
    intro n m j
    fin_cases n <;> fin_cases m <;> fin_cases j <;> simp [yPieces]
  refine ⟨_, hm ⟨(y 1).val / 256, by omega⟩ ⟨(y 0).val / 96, by omega⟩ ⟨(y 1).val % 256 / 128, by omega⟩,
    key _ _ _ ⟨?_, ?_⟩ ⟨?_, ?_⟩⟩ <;> simp only [] <;> omega

set_option maxHeartbeats 20000000 in
/-- The multiplying stretch, on whole operands: the scales of the weights, the weights' block, the codes and the
    scales of the activations come back as they were, the result's block holds `yBlk` of them. -/
theorem mainRun (c : Dev nD) (i : grid0.Coords)
    (arg1 : Memref sig .tc .smem S56x64 .f32) (harg1 : arg1.IsWhole)
    (arg2 : Memref sig .tc .vmem S192x7168 .bf16) (harg2 : arg2.IsWhole)
    (arg3 : Memref sig .tc .vmem S7168x512 .fp8e4m3) (harg3 : arg3.IsWhole)
    (arg4 : Memref sig .tc .vmem S192x512 .bf16) (harg4 : arg4.IsWhole)
    (arg5 : Memref sig .tc .vmem S192x7168 .fp8e4m3) (harg5 : arg5.IsWhole)
    (arg6 : Memref sig .tc .vmem S192x56 .f32) (harg6 : arg6.IsWhole)
    (arg7 : Memref sig .tc .vmem S56x192x128 .f32) (harg7 : arg7.IsWhole)
    (x0 : Vec F S56x64 .f32) (x2 : Vec F S7168x512 .fp8e4m3) (x4 : Vec F S192x7168 .fp8e4m3)
    (x6 : Vec F S56x192x128 .f32) :
      ∀ (E : Set ℕ) (K : PUnit → sProp 𝕄),
        iprop(owns (c : Thread nD τ) arg1 fullShare x0 ∗ owns (c : Thread nD τ) arg3 fullShare x2
            ∗ (∃ d, owns (c : Thread nD τ) arg4 fullShare d)
            ∗ owns (c : Thread nD τ) arg5 fullShare x4 ∗ owns (c : Thread nD τ) arg7 fullShare x6
            ∗ (iprop(owns (c : Thread nD τ) arg1 fullShare x0 ∗ owns (c : Thread nD τ) arg3 fullShare x2
                ∗ owns (c : Thread nD τ) arg4 fullShare (yBlk x0 x2 x4 x6 i)
                ∗ owns (c : Thread nD τ) arg5 fullShare x4 ∗ owns (c : Thread nD τ) arg7 fullShare x6) -∗ K ⟨⟩))
          ⊢ wp frame (wpE (defs₀ (F := F)) Variants.none c none) E
              (mainBody i arg1 harg1 arg2 harg2 arg3 harg3 arg4 harg4 arg5 harg5 arg6 harg6 arg7 harg7) K := by
    intro E K
    unfold mainBody rest275 rest133
    simp only [k0_part134_eq_skeleton, k0_part135_eq_skeleton, k0_part136_eq_skeleton, k0_part137_eq_skeleton,
      k0_part138_eq_skeleton, k0_part139_eq_skeleton, k0_part140_eq_skeleton, k0_part141_eq_skeleton,
      k0_part142_eq_skeleton, k0_part143_eq_skeleton, k0_part144_eq_skeleton, k0_part145_eq_skeleton,
      k0_part146_eq_skeleton, k0_part147_eq_skeleton, k0_part148_eq_skeleton, k0_part149_eq_skeleton,
      k0_part150_eq_skeleton, k0_part151_eq_skeleton, k0_part152_eq_skeleton, k0_part153_eq_skeleton,
      k0_part154_eq_skeleton, k0_part155_eq_skeleton, k0_part156_eq_skeleton, k0_part157_eq_skeleton,
      k0_part158_eq_skeleton, k0_part159_eq_skeleton, k0_part160_eq_skeleton, k0_part161_eq_skeleton,
      k0_part162_eq_skeleton, k0_part163_eq_skeleton, k0_part164_eq_skeleton, k0_part165_eq_skeleton,
      k0_part166_eq_skeleton, k0_part167_eq_skeleton, k0_part168_eq_skeleton, k0_part169_eq_skeleton,
      k0_part170_eq_skeleton, k0_part171_eq_skeleton, k0_part172_eq_skeleton, k0_part173_eq_skeleton,
      k0_part174_eq_skeleton, k0_part175_eq_skeleton, k0_part176_eq_skeleton, k0_part177_eq_skeleton,
      k0_part178_eq_skeleton, k0_part179_eq_skeleton, k0_part180_eq_skeleton, k0_part181_eq_skeleton,
      k0_part182_eq_skeleton, k0_part183_eq_skeleton, k0_part184_eq_skeleton, k0_part185_eq_skeleton,
      k0_part186_eq_skeleton, k0_part187_eq_skeleton, k0_part188_eq_skeleton, k0_part189_eq_skeleton,
      k0_part190_eq_skeleton, k0_part191_eq_skeleton, k0_part192_eq_skeleton, k0_part276_eq_skeleton,
      k0_part193_eq_skeleton, k0_part194_eq_skeleton, k0_part195_eq_skeleton, k0_part196_eq_skeleton,
      k0_part197_eq_skeleton, k0_part198_eq_skeleton, k0_part199_eq_skeleton, k0_part200_eq_skeleton,
      k0_part201_eq_skeleton, k0_part202_eq_skeleton, k0_part203_eq_skeleton, k0_part204_eq_skeleton,
      k0_part205_eq_skeleton, k0_part206_eq_skeleton, k0_part207_eq_skeleton, k0_part208_eq_skeleton,
      k0_part209_eq_skeleton, k0_part210_eq_skeleton, k0_part211_eq_skeleton, k0_part212_eq_skeleton,
      k0_part213_eq_skeleton, k0_part214_eq_skeleton, k0_part215_eq_skeleton, k0_part216_eq_skeleton,
      k0_part217_eq_skeleton, k0_part218_eq_skeleton, k0_part219_eq_skeleton, k0_part220_eq_skeleton,
      k0_part221_eq_skeleton, k0_part222_eq_skeleton, k0_part223_eq_skeleton, k0_part224_eq_skeleton,
      k0_part225_eq_skeleton, k0_part226_eq_skeleton, k0_part227_eq_skeleton, k0_part228_eq_skeleton,
      k0_part229_eq_skeleton, k0_part230_eq_skeleton, k0_part231_eq_skeleton, k0_part232_eq_skeleton,
      k0_part233_eq_skeleton, k0_part234_eq_skeleton, k0_part235_eq_skeleton, k0_part236_eq_skeleton,
      k0_part237_eq_skeleton, k0_part238_eq_skeleton, k0_part239_eq_skeleton, k0_part240_eq_skeleton,
      k0_part241_eq_skeleton, k0_part242_eq_skeleton, k0_part243_eq_skeleton, k0_part244_eq_skeleton,
      k0_part245_eq_skeleton, k0_part246_eq_skeleton, k0_part247_eq_skeleton, k0_part248_eq_skeleton,
      k0_part249_eq_skeleton, k0_part250_eq_skeleton, k0_part251_eq_skeleton, k0_part252_eq_skeleton,
      k0_part277_eq_skeleton, k0_part253_eq_skeleton, k0_part254_eq_skeleton, k0_part255_eq_skeleton,
      k0_part256_eq_skeleton, k0_part257_eq_skeleton, k0_part258_eq_skeleton, k0_part259_eq_skeleton,
      k0_part260_eq_skeleton, k0_part261_eq_skeleton, k0_part262_eq_skeleton, k0_part263_eq_skeleton,
      k0_part264_eq_skeleton, k0_part265_eq_skeleton, k0_part266_eq_skeleton, k0_part267_eq_skeleton,
      k0_part268_eq_skeleton, k0_part269_eq_skeleton, k0_part270_eq_skeleton, k0_part271_eq_skeleton,
      k0_part272_eq_skeleton, k0_part273_eq_skeleton, k0_part274_eq_skeleton]
    unfold owns
    iintro ⟨⟨%f0, %hf0, H0⟩, ⟨%f2, %hf2, H2⟩, ⟨%d3, %f3, -, H3⟩, ⟨%f4, %hf4, H4⟩, ⟨%f6, %hf6, H6⟩, Hk⟩
    subst hf0 hf2 hf4 hf6
    sl_exec
    sl_step
    iapply Hk
    isplitl [H0]
    · iexists f0; isplitr; · ipureintro; rfl
      iexact H0
    isplitl [H2]
    · iexists f2; isplitr; · ipureintro; rfl
      iexact H2
    isplitl [H3]
    · iexists _; isplitr
      swap; · iexact H3
      ipureintro
      exact View.read_writes_eq_canon arg4.view f3
        (yPieces (arg1.view.read _ f0) (arg3.view.read _ f2) (arg5.view.read _ f4) (arg7.view.read _ f6) i)
        (yPieces_cover _ _ _ _ _)
    isplitl [H4]
    · iexists f4; isplitr; · ipureintro; rfl
      iexact H4
    iexists f6; isplitr; · ipureintro; rfl
    iexact H6

end Cert.Kernel.Gen

end
-- ==== Proof.BitsQuantRun.lean ====
module

public import proofs.«01_k».proof.Proof.BitsSpec
public import Idealize.ShloMosaic.Lib.Pipeline.Value

@[expose] public section

/-! # The quantising stretch

Run on the activations it leaves the codes, the array of scales and the scales for the multiplication.

This module speaks of the kernel at its machine formats; its namesake without `Bits` speaks of the same text read over the
extended reals, which is printed as a program of its own. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A stored block of codes is some group's. -/
theorem mem_codePieces (x : Vec F S192x7168 .bf16) (p : View.Piece (Elt F) S192x7168 .fp8e4m3) :
    ∀ n, p ∈ codePieces x n ↔ ∃ g < n, p = ⟨colR g, codesG (blkX x g)⟩
  | 0 => by simp [codePieces]
  | n + 1 => by
    simp only [codePieces, List.mem_cons, mem_codePieces x p n]
    constructor
    · rintro (h | ⟨g, hg, h⟩)
      · exact ⟨n, by omega, h⟩
      · exact ⟨g, by omega, h⟩
    · rintro ⟨g, hg, h⟩
      rcases Nat.lt_succ_iff_lt_or_eq.mp hg with hg | rfl
      · exact .inr ⟨g, hg, h⟩
      · exact .inl h

/-- A stored plane of scales is some group's. -/
theorem mem_xsPieces (x : Vec F S192x7168 .bf16) (p : View.Piece (Elt F) S56x192x128 .f32) :
    ∀ n, p ∈ xsPieces x n ↔
      ∃ g < n, p = ⟨xsR g, shapeCast S1x192x128 (scaleG (blkX x g)) shapeCasts_S192x128_S1x192x128⟩
  | 0 => by simp [xsPieces]
  | n + 1 => by
    simp only [xsPieces, List.mem_cons, mem_xsPieces x p n]
    constructor
    · rintro (h | ⟨g, hg, h⟩)
      · exact ⟨n, by omega, h⟩
      · exact ⟨g, by omega, h⟩
    · rintro ⟨g, hg, h⟩
      rcases Nat.lt_succ_iff_lt_or_eq.mp hg with hg | rfl
      · exact .inr ⟨g, hg, h⟩
      · exact .inl h

/-- The groups' columns fill the codes. -/
theorem codePieces_cover (x : Vec F S192x7168 .bf16) (y : S192x7168.Idx) :
    ∃ p ∈ codePieces x 56, y ∈ p.1.set := by
  have h0 : (y 0).val < 192 := (y 0).isLt
  have h1 : (y 1).val < 7168 := (y 1).isLt
  refine ⟨_, (mem_codePieces x _ 56).mpr ⟨(y 1).val / 128, by omega, rfl⟩, ?_⟩
  dsimp only
  unfold colR
  rw [Rect.mem_set_unit]
  intro a
  fin_cases a
  · exact ⟨Nat.zero_le _, by show (y 0).val < 0 + 192; omega⟩
  · exact ⟨by show 128 * ((y 1).val / 128 % 56) ≤ (y 1).val; omega,
      by show (y 1).val < 128 * ((y 1).val / 128 % 56) + 128; omega⟩

/-- The groups' planes fill the scales. -/
theorem xsPieces_cover (x : Vec F S192x7168 .bf16) (y : S56x192x128.Idx) :
    ∃ p ∈ xsPieces x 56, y ∈ p.1.set := by
  have h0 : (y 0).val < 56 := (y 0).isLt
  have h1 : (y 1).val < 192 := (y 1).isLt
  have h2 : (y 2).val < 128 := (y 2).isLt
  refine ⟨_, (mem_xsPieces x _ 56).mpr ⟨(y 0).val, h0, rfl⟩, ?_⟩
  dsimp only
  unfold xsR
  rw [Rect.mem_set_unit]
  intro a
  fin_cases a
  · exact ⟨by show (y 0).val % 56 ≤ (y 0).val; omega, by show (y 0).val < (y 0).val % 56 + 1; omega⟩
  · exact ⟨Nat.zero_le _, by show (y 1).val < 0 + 192; omega⟩
  · exact ⟨Nat.zero_le _, by show (y 2).val < 0 + 128; omega⟩

set_option maxHeartbeats 20000000 in
/-- The quantising stretch, on whole operands: the activations come back as they were, the codes, the array of scales
    and the scales for the multiplication, whatever they were, hold the activations' quantisation. -/
theorem quantRun (c : Dev nD) (i : grid0.Coords)
    (arg1 : Memref sig .tc .smem S56x64 .f32) (harg1 : arg1.IsWhole)
    (arg2 : Memref sig .tc .vmem S192x7168 .bf16) (harg2 : arg2.IsWhole)
    (arg3 : Memref sig .tc .vmem S7168x512 .fp8e4m3) (harg3 : arg3.IsWhole)
    (arg4 : Memref sig .tc .vmem S192x512 .bf16) (harg4 : arg4.IsWhole)
    (arg5 : Memref sig .tc .vmem S192x7168 .fp8e4m3) (harg5 : arg5.IsWhole)
    (arg6 : Memref sig .tc .vmem S192x56 .f32) (harg6 : arg6.IsWhole)
    (arg7 : Memref sig .tc .vmem S56x192x128 .f32) (harg7 : arg7.IsWhole)
    (x1 : Vec F S192x7168 .bf16) :
      ∀ (E : Set ℕ) (K : PUnit → sProp 𝕄),
        iprop(owns (c : Thread nD τ) arg2 fullShare x1
            ∗ (∃ d, owns (c : Thread nD τ) arg5 fullShare d) ∗ (∃ d, owns (c : Thread nD τ) arg6 fullShare d)
            ∗ (∃ d, owns (c : Thread nD τ) arg7 fullShare d)
            ∗ (iprop(owns (c : Thread nD τ) arg2 fullShare x1
                ∗ owns (c : Thread nD τ) arg5 fullShare (codesAll x1)
                ∗ owns (c : Thread nD τ) arg6 fullShare (scaleAll x1)
                ∗ owns (c : Thread nD τ) arg7 fullShare (xsAll x1)) -∗ K ⟨⟩))
          ⊢ wp frame (wpE (defs₀ (F := F)) Variants.none c none) E
              (quant i arg1 harg1 arg2 harg2 arg3 harg3 arg4 harg4 arg5 harg5 arg6 harg6 arg7 harg7) K := by
    intro E K
    unfold quant
    simp only [k0_part130_eq_skeleton, k0_part131_eq_skeleton, k0_part132_eq_skeleton, k0_part1_eq_skeleton,
      k0_part2_eq_skeleton, k0_part3_eq_skeleton, k0_part4_eq_skeleton, k0_part5_eq_skeleton,
      k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton, k0_part35_eq_skeleton, k0_part36_eq_skeleton, k0_part37_eq_skeleton,
      k0_part38_eq_skeleton, k0_part39_eq_skeleton, k0_part40_eq_skeleton, k0_part41_eq_skeleton,
      k0_part42_eq_skeleton, k0_part43_eq_skeleton, k0_part44_eq_skeleton, k0_part45_eq_skeleton,
      k0_part46_eq_skeleton, k0_part47_eq_skeleton, k0_part48_eq_skeleton, k0_part49_eq_skeleton,
      k0_part50_eq_skeleton, k0_part51_eq_skeleton, k0_part52_eq_skeleton, k0_part53_eq_skeleton,
      k0_part54_eq_skeleton, k0_part55_eq_skeleton, k0_part56_eq_skeleton, k0_part57_eq_skeleton,
      k0_part58_eq_skeleton, k0_part59_eq_skeleton, k0_part60_eq_skeleton, k0_part61_eq_skeleton,
      k0_part62_eq_skeleton, k0_part63_eq_skeleton, k0_part64_eq_skeleton, k0_part65_eq_skeleton,
      k0_part66_eq_skeleton, k0_part67_eq_skeleton, k0_part68_eq_skeleton, k0_part69_eq_skeleton,
      k0_part70_eq_skeleton, k0_part71_eq_skeleton, k0_part72_eq_skeleton, k0_part73_eq_skeleton,
      k0_part74_eq_skeleton, k0_part75_eq_skeleton, k0_part76_eq_skeleton, k0_part77_eq_skeleton,
      k0_part78_eq_skeleton, k0_part79_eq_skeleton, k0_part80_eq_skeleton, k0_part81_eq_skeleton,
      k0_part82_eq_skeleton, k0_part83_eq_skeleton, k0_part84_eq_skeleton, k0_part85_eq_skeleton,
      k0_part86_eq_skeleton, k0_part87_eq_skeleton, k0_part88_eq_skeleton, k0_part89_eq_skeleton,
      k0_part90_eq_skeleton, k0_part91_eq_skeleton, k0_part92_eq_skeleton, k0_part93_eq_skeleton,
      k0_part94_eq_skeleton, k0_part95_eq_skeleton, k0_part96_eq_skeleton, k0_part97_eq_skeleton,
      k0_part98_eq_skeleton, k0_part99_eq_skeleton, k0_part100_eq_skeleton, k0_part101_eq_skeleton,
      k0_part102_eq_skeleton, k0_part103_eq_skeleton, k0_part104_eq_skeleton, k0_part105_eq_skeleton,
      k0_part106_eq_skeleton, k0_part107_eq_skeleton, k0_part108_eq_skeleton, k0_part109_eq_skeleton,
      k0_part110_eq_skeleton, k0_part111_eq_skeleton, k0_part112_eq_skeleton, k0_part113_eq_skeleton,
      k0_part114_eq_skeleton, k0_part115_eq_skeleton, k0_part116_eq_skeleton, k0_part117_eq_skeleton,
      k0_part118_eq_skeleton, k0_part119_eq_skeleton, k0_part120_eq_skeleton, k0_part121_eq_skeleton,
      k0_part122_eq_skeleton, k0_part123_eq_skeleton, k0_part124_eq_skeleton, k0_part125_eq_skeleton,
      k0_part126_eq_skeleton, k0_part127_eq_skeleton, k0_part128_eq_skeleton, k0_part129_eq_skeleton]
    unfold owns
    iintro ⟨⟨%f1, %hf1, H1⟩, ⟨%d4, %f4, -, H4⟩, ⟨%d5, %f5, -, H5⟩, ⟨%d6, %f6, -, H6⟩, Hk⟩
    subst hf1
    sl_exec
    sl_step
    iapply Hk
    isplitl [H1]
    · iexists f1; isplitr; · ipureintro; rfl
      iexact H1
    isplitl [H4]
    · iexists _; isplitr
      swap; · iexact H4
      ipureintro
      exact View.read_writes_eq_canon arg5.view f4 (codePieces (arg2.view.read _ f1) 56) (codePieces_cover _)
    isplitl [H5]
    · iexists _; isplitr
      swap; · iexact H5
      ipureintro
      refine (View.read_writes_eq_canon arg6.view f5
        [⟨Rect.unit (s := S192x56) ![0, 0] S192x56.size inb_S192x56_S192x56_0_0, scaleAll (arg2.view.read _ f1)⟩]
        fun y => ⟨_, List.mem_singleton_self _,
          View.mem_set_unit_zero (S := S192x56) (by funext a; fin_cases a <;> rfl) inb_S192x56_S192x56_0_0 y⟩).trans ?_
      exact View.canon_unit_zero (S := S192x56) (by funext a; fin_cases a <;> rfl) inb_S192x56_S192x56_0_0 _
    iexists _; isplitr
    swap; · iexact H6
    ipureintro
    exact View.read_writes_eq_canon arg7.view f6 (xsPieces (arg2.view.read _ f1) 56) (xsPieces_cover _)

end Cert.Kernel.Gen

end
-- ==== Proof.BitsRun.lean ====
module

public import proofs.«01_k».proof.Proof.BitsMainRun
public import proofs.«01_k».proof.Proof.BitsQuantRun
public import proofs.«01_k».proof.Proof.Gen.Kernel.Frame
public import Idealize.ShloMosaic.Lib.Claim
public import Idealize.ShloMosaic.Lib.Pipeline.TableIdle

@[expose] public section

/-! # The kernel's run, with the values it leaves

The first grid point quantises and multiplies, each later point multiplies with the codes and scales the first left.

This module speaks of the kernel at its machine formats; `KRun` speaks of the same text read over the
extended reals, which is printed as a program of its own. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at one point -/

/-- The body at the first point, on whole operands. -/
theorem runA (c : Dev nD) (i : grid0.Coords)
    (arg1 : Memref sig .tc .smem S56x64 .f32) (harg1 : arg1.IsWhole)
    (arg2 : Memref sig .tc .vmem S192x7168 .bf16) (harg2 : arg2.IsWhole)
    (arg3 : Memref sig .tc .vmem S7168x512 .fp8e4m3) (harg3 : arg3.IsWhole)
    (arg4 : Memref sig .tc .vmem S192x512 .bf16) (harg4 : arg4.IsWhole)
    (arg5 : Memref sig .tc .vmem S192x7168 .fp8e4m3) (harg5 : arg5.IsWhole)
    (arg6 : Memref sig .tc .vmem S192x56 .f32) (harg6 : arg6.IsWhole)
    (arg7 : Memref sig .tc .vmem S56x192x128 .f32) (harg7 : arg7.IsWhole)
    (hi : k0_cond1 i = 1#1) (x0 : Vec F S56x64 .f32) (x1 : Vec F S192x7168 .bf16) (x2 : Vec F S7168x512 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare (yBlk x0 x2 (codesAll x1) (xsAll x1) i)
                ∗ owns (c : Thread nD τ) arg5 fullShare (codesAll x1) ∗ owns (c : Thread nD τ) arg6 fullShare (scaleAll x1)
                ∗ owns (c : Thread nD τ) arg7 fullShare (xsAll x1)) -∗ K ⟨⟩))
          ⊢ wp frame (wpE (defs₀ (F := F)) Variants.none c none) E
              (cc0__body (F := F) i arg1 harg1 arg2 harg2 arg3 harg3 arg4 harg4 arg5 harg5 arg6 harg6 arg7 harg7) K := by
  intro E K
  rw [body_split, if_pos hi, wp_bind]
  iintro ⟨H1, H2, H3, H4, H5, H6, H7, Hk⟩
  iapply (quantRun c i arg1 harg1 arg2 harg2 arg3 harg3 arg4 harg4 arg5 harg5 arg6 harg6 arg7 harg7 x1) E _
  isplitl [H2]; · iexact H2
  isplitl [H5]; · iexact H5
  isplitl [H6]; · iexact H6
  isplitl [H7]; · iexact H7
  iintro ⟨H2, H5, H6, H7⟩
  iapply (mainRun c i arg1 harg1 arg2 harg2 arg3 harg3 arg4 harg4 arg5 harg5 arg6 harg6 arg7 harg7
    x0 x2 (codesAll x1) (xsAll x1)) E _
  isplitl [H1]; · iexact H1
  isplitl [H3]; · iexact H3
  isplitl [H4]; · iexact H4
  isplitl [H5]; · iexact H5
  isplitl [H7]; · iexact H7
  iintro ⟨H1, H3, H4, H5, H7⟩
  iapply Hk
  isplitl [H1]; · iexact H1
  isplitl [H2]; · iexact H2
  isplitl [H3]; · iexact H3
  isplitl [H4]; · iexact H4
  isplitl [H5]; · iexact H5
  isplitl [H6]; · iexact H6
  iexact H7

/-- The body at a later point, on whole operands. -/
theorem runB (c : Dev nD) (i : grid0.Coords)
    (arg1 : Memref sig .tc .smem S56x64 .f32) (harg1 : arg1.IsWhole)
    (arg2 : Memref sig .tc .vmem S192x7168 .bf16) (harg2 : arg2.IsWhole)
    (arg3 : Memref sig .tc .vmem S7168x512 .fp8e4m3) (harg3 : arg3.IsWhole)
    (arg4 : Memref sig .tc .vmem S192x512 .bf16) (harg4 : arg4.IsWhole)
    (arg5 : Memref sig .tc .vmem S192x7168 .fp8e4m3) (harg5 : arg5.IsWhole)
    (arg6 : Memref sig .tc .vmem S192x56 .f32) (harg6 : arg6.IsWhole)
    (arg7 : Memref sig .tc .vmem S56x192x128 .f32) (harg7 : arg7.IsWhole)
    (hi : ¬k0_cond1 i = 1#1) (x0 : Vec F S56x64 .f32) (x2 : Vec F S7168x512 .fp8e4m3) (x4 : Vec F S192x7168 .fp8e4m3)
    (x6 : Vec F S56x192x128 .f32) :
      ∀ (E : Set ℕ) (K : PUnit → sProp 𝕄),
        iprop(owns (c : Thread nD τ) arg1 fullShare x0 ∗ owns (c : Thread nD τ) arg3 fullShare x2
            ∗ (∃ d, owns (c : Thread nD τ) arg4 fullShare d) ∗ owns (c : Thread nD τ) arg5 fullShare x4 ∗ owns (c : Thread nD τ) arg7 fullShare x6
            ∗ (iprop(owns (c : Thread nD τ) arg1 fullShare x0 ∗ owns (c : Thread nD τ) arg3 fullShare x2
                ∗ owns (c : Thread nD τ) arg4 fullShare (yBlk x0 x2 x4 x6 i)
                ∗ owns (c : Thread nD τ) arg5 fullShare x4 ∗ owns (c : Thread nD τ) arg7 fullShare x6) -∗ K ⟨⟩))
          ⊢ wp frame (wpE (defs₀ (F := F)) Variants.none c none) E
              (cc0__body (F := F) i arg1 harg1 arg2 harg2 arg3 harg3 arg4 harg4 arg5 harg5 arg6 harg6 arg7 harg7) K := by
  intro E K
  rw [body_split, if_neg hi]
  exact mainRun c i arg1 harg1 arg2 harg2 arg3 harg3 arg4 harg4 arg5 harg5 arg6 harg6 arg7 harg7 x0 x2 x4 x6 E K

variable (m : (ℓ : Loc nD τ sig) → Buf (Elt F) ℓ) (ρ : Dev nD → PrngReg)

/-! ## The points -/

/-- The quantising stretch is run at the first point only. -/
theorem hcond0 : ∀ t : Fin cfg0.N, k0_cond1 (grid0.coords t) = 1#1 ↔ t.val = 0 :=
  (fun t => by
    have ht : t.val < 16 := Nat.lt_of_lt_of_eq t.isLt N_0
    have e0 : (grid0.coords t 0).val = t.val / 1 % 16 := Pipeline.Grid.coords_val t 0 (by decide) rfl
    simp only [k0_cond1, e0]
    word_cmp
   : ∀ t : Fin grid0.N, k0_cond1 (grid0.coords t) = 1#1 ↔ t.val = 0)

/-- The activations' window is the whole array, the same at every point. -/
theorem iblk_1_const (c : Dev nD) (t t' : Fin cfg0.N) : iblk m c 1 t = iblk m c 1 t' := rfl

/-- The scratch buffer, whole. -/
abbrev scM : Memref sig .tc .vmem S56x192x128 .f32 := Memref.whole cc0_scratch0

/-- The invariant of the class, the scratch buffer owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- After the first point the scratch buffer holds the scales of the activations. -/
def PhiS (c : Dev nD) : sProp 𝕄 :=
  iprop(owns (c : Thread nD τ) scM fullShare (xsAll (iblk m c 1 t0_0)) ∗ (∃ r, prngReg c r))

/-! ## The proof data -/

/-- What the body leaves in each window: an input its block; the result its block of products; the codes and the
    array of scales the activations' quantisation. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yBlk (iblk m c 0 t) (iblk m c 2 t) (codesAll (iblk m c 1 t0_0)) (xsAll (iblk m c 1 t0_0)) (grid0.coords t)
    | ⟨4, _⟩ => codesAll (iblk m c 1 t0_0)
    | ⟨5, _⟩ => scaleAll (iblk m c 1 t0_0)
  Φ t := if t.val = 0 then Pipeline.ΦA spec0 c else PhiS m c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t
    = yBlk (iblk m c 0 t) (iblk m c 2 t) (codesAll (iblk m c 1 t0_0)) (xsAll (iblk m c 1 t0_0)) (grid0.coords t) := by
  dsimp only [dats]
theorem after_4 (c : Dev nD) (t : Fin cfg0.N) : (dats m 0 c).after 4 t = codesAll (iblk m c 1 t0_0) := by
  dsimp only [dats]
theorem after_5 (c : Dev nD) (t : Fin cfg0.N) : (dats m 0 c).after 5 t = scaleAll (iblk m c 1 t0_0) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- Window 4 is idle at a point but the first. -/
theorem idle4 (t : Fin cfg0.N) : cfg0.idle 4 (cfg0.grid.coords t) = !(k0_cond1 (grid0.coords t) == 1#1) := rfl
/-- Window 5 is idle at a point but the first. -/
theorem idle5 (t : Fin cfg0.N) : cfg0.idle 5 (cfg0.grid.coords t) = !(k0_cond1 (grid0.coords t) == 1#1) := rfl

/-- A window stored at the first point and written back at the last holds what was stored at every later point. -/
theorem fresh_of (w : Fin cfg0.W) (hi : ∀ t, cfg0.idle w (cfg0.grid.coords t) = !(k0_cond1 (grid0.coords t) == 1#1))
    (hf : ∀ t : Fin cfg0.N, (cfg0.win w).flush t = true ↔ t.val % 16 = 15) :
    ∀ n, n + 1 < 16 → cfg0.fresh w (n + 1) = false := by
  have hN : cfg0.N = 16 := N_0
  have hf' : ∀ n (h : n < cfg0.N), n + 1 < 16 → (cfg0.win w).flush ⟨n, h⟩ = false := by
    intro n h hn
    rw [← Bool.not_eq_true, hf]
    show ¬ n % 16 = 15
    omega
  intro n
  induction n with
  | zero =>
    intro hn
    have h : 0 < cfg0.N := by omega
    rw [Pipeline.Cfg.fresh_succ cfg0 w 0 h, hf' 0 h hn, hi ⟨0, h⟩, (hcond0 ⟨0, h⟩).mpr rfl]
    rfl
  | succ n ih =>
    intro hn
    have h : n + 1 < cfg0.N := by omega
    rw [Pipeline.Cfg.fresh_succ cfg0 w (n + 1) h, hf' (n + 1) h hn, ih (by omega), Bool.and_false]
    rfl

theorem before_4 (c : Dev nD) (t : Fin cfg0.N) (ht : t.val ≠ 0) (d) :
    (dats m 0 c).before 4 t d = codesAll (iblk m c 1 t0_0) := by
  have hN : t.val < 16 := lt_of_lt_of_eq t.isLt (show cfg0.N = 16 from N_0)
  rw [(dats m 0 c).before_out_traj 4 rfl (fun _ _ => rfl)
    (fun t _ _ _ => by rw [after_4, after_4]) t.val t rfl d]
  have e : cfg0.fresh 4 t.val = false := by
    obtain ⟨n, hn⟩ := Nat.exists_eq_succ_of_ne_zero ht
    rw [hn]
    exact fresh_of 4 idle4 flush0_4 n (by omega)
  rw [e, after_4]
  rfl

theorem before_5 (c : Dev nD) (t : Fin cfg0.N) (ht : t.val ≠ 0) (d) :
    (dats m 0 c).before 5 t d = scaleAll (iblk m c 1 t0_0) := by
  have hN : t.val < 16 := lt_of_lt_of_eq t.isLt (show cfg0.N = 16 from N_0)
  rw [(dats m 0 c).before_out_traj 5 rfl (fun _ _ => rfl)
    (fun t _ _ _ => by rw [after_5, after_5]) t.val t rfl d]
  have e : cfg0.fresh 5 t.val = false := by
    obtain ⟨n, hn⟩ := Nat.exists_eq_succ_of_ne_zero ht
    rw [hn]
    exact fresh_of 5 idle5 flush0_5 n (by omega)
  rw [e, after_5]
  rfl

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- A window whose buffer holds what the body leaves is left so, idle or not. -/
theorem leaves_of (c : Dev nD) (w : Fin cfg0.W) (t : Fin cfg0.N)
    (h : cfg0.idle w (cfg0.grid.coords t) = true → ∃ d, (dats m 0 c).after w t = (dats m 0 c).before w t d) :
    owns (c : Thread nD τ) ((cfg0.win w).stage (cfg0.slots t w)) fullShare ((dats m 0 c).after w t)
      ⊢ ((dats m 0 c).leavesExact w t : sProp 𝕄) := by
  unfold Dat.leavesExact
  cases hi : cfg0.idle w (cfg0.grid.coords t)
  · exact .rfl
  · cases hf : (cfg0.win w).flush t
    · obtain ⟨d, e⟩ := h hi
      rw [e]
      iintro H
      iexists d
      iexact H
    · exact .rfl

set_option maxHeartbeats 2000000 in
theorem sound_body (c : Dev nD) (t : Fin cfg0.N) :
    bodyPre m c t ⊢ wp frame (wpE (defs₀ (F := F)) Variants.none c none) Set.univ (bodyAt0 t)
      (fun _ => bodyPost m c t) := by
  have h0 : ∀ d, (dats m 0 c).after 0 t = (dats m 0 c).before 0 t d := fun d => by rw [before_0, after_0]
  unfold bodyPre bodyPost bodyAt0
  simp only [before_0, before_1, before_2]
  rw [show (dats m 0 c).owesAt () t.succ = (dats m 0 c).owesAt () t.castSucc from rfl,
    show (dats m 0 c).Φ t.succ = PhiS m c from
      (show (dats m 0 c).Φ t.succ = if t.succ.val = 0 then Pipeline.ΦA spec0 c else PhiS m c from rfl).trans
        (if_neg (Nat.succ_ne_zero _)),
    show (dats m 0 c).Φ t.castSucc = if t.val = 0 then Pipeline.ΦA spec0 c else PhiS m c from rfl]
  by_cases ht : t.val = 0
  · have hc := (hcond0 t).mpr ht
    have n4 : cfg0.idle 4 (cfg0.grid.coords t) = false := by rw [idle4, hc]; rfl
    have n5 : cfg0.idle 5 (cfg0.grid.coords t) = false := by rw [idle5, hc]; rfl
    rw [if_pos ht, PhiA_eq]
    unfold PhiS
    iintro ⟨⟨HS, Hg⟩, Ho, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ _ _ hc
      (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    rw [iblk_1_const m c t t0_0]
    iintro ⟨H0, H1, H2, H3, H4, H5, HS⟩
    isplitl [HS Hg]
    · isplitl [HS]
      · iexact HS
      iexact Hg
    isplitl [Ho]; · iexact Ho
    isplitl [H0]; · iapply (leaves_of m c 0 t (fun h => absurd (show false = true from h) Bool.false_ne_true)); rw [after_0]; iexact H0
    isplitl [H1]; · iapply (leaves_of m c 1 t (fun h => absurd (show false = true from h) Bool.false_ne_true)); rw [after_1, iblk_1_const m c t t0_0]; iexact H1
    isplitl [H2]; · iapply (leaves_of m c 2 t (fun h => absurd (show false = true from h) Bool.false_ne_true)); rw [after_2]; iexact H2
    isplitl [H3]; · iapply (leaves_of m c 3 t (fun h => absurd (show false = true from h) Bool.false_ne_true)); rw [after_3]; iexact H3
    isplitl [H4]; · iapply (leaves_of m c 4 t (fun h => absurd h (by rw [n4]; decide))); rw [after_4]; iexact H4
    iapply (leaves_of m c 5 t (fun h => absurd h (by rw [n5]; decide))); rw [after_5]; iexact H5
  · have hc : ¬k0_cond1 (grid0.coords t) = 1#1 := fun h => ht ((hcond0 t).mp h)
    rw [if_neg ht]
    simp only [before_4 m c t ht, before_5 m c t ht]
    unfold PhiS
    iintro ⟨⟨HS, Hg⟩, Ho, ⟨%d0, H0⟩, ⟨%d1, H1⟩, ⟨%d2, H2⟩, ⟨%d3, H3⟩, ⟨%d4, H4⟩, ⟨%d5, H5⟩⟩
    iapply ((runB c (grid0.coords t) _ _ (st0_1 t) (hstage0_1 ((cfg0.slots t 1).cast nbuf0_1)) _ _ _ _ _ _ (st0_5 t)
      (hstage0_5 ((cfg0.slots t 5).cast nbuf0_5)) _ _ hc
      (iblk m c 0 t) (iblk m c 2 t) (codesAll (iblk m c 1 t0_0)) (xsAll (iblk m c 1 t0_0))) Set.univ _)
    isplitl [H0]; · iexact H0
    isplitl [H2]; · iexact H2
    isplitl [H3]; · iexists _; iexact H3
    isplitl [H4]; · iexact H4
    isplitl [HS]; · iexact HS
    iintro ⟨H0, H2, H3, H4, HS⟩
    isplitl [HS Hg]
    · isplitl [HS]
      · iexact HS
      iexact Hg
    isplitl [Ho]; · iexact Ho
    isplitl [H0]; · iapply (leaves_of m c 0 t (fun h => absurd (show false = true from h) Bool.false_ne_true)); rw [after_0]; iexact H0
    isplitl [H1]; · iapply (leaves_of m c 1 t (fun h => absurd (show false = true from h) Bool.false_ne_true)); rw [after_1]; iexact H1
    isplitl [H2]; · iapply (leaves_of m c 2 t (fun h => absurd (show false = true from h) Bool.false_ne_true)); rw [after_2]; iexact H2
    isplitl [H3]; · iapply (leaves_of m c 3 t (fun h => absurd (show false = true from h) Bool.false_ne_true)); rw [after_3]; iexact H3
    isplitl [H4]; · iapply (leaves_of m c 4 t (fun _ => ⟨d4, by rw [after_4, before_4 m c t ht]⟩)); rw [after_4]; iexact H4
    iapply (leaves_of m c 5 t (fun _ => ⟨d5, by rw [after_5, before_5 m c t ht]⟩)); rw [after_5]; iexact H5

/-- The body table's row at a point's slots. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- After the last point the scratch buffer is forgotten. -/
theorem PhiS_forget (c : Dev nD) : PhiS m c ⊢ (Pipeline.ΦA spec0 c : sProp 𝕄) := by
  rw [PhiA_eq]
  unfold PhiS
  iintro ⟨HS, Hg⟩
  isplitl [HS]
  · iexists _; iexact HS
  iexact Hg

set_option backward.isDefEq.respectTransparency.types false in
set_option maxHeartbeats 800000 in
/-- The launch, every counter at zero at the end. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl) (hout := fun c => PhiS_forget m c)

/-- The launch. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.Split.lean ====
module

public import proofs.«01_k».proof.Proof.Gen.KernelIdeal.Frame
public import proofs.«01_k».proof.Proof.Gen.KernelIdeal.Skeleton

@[expose] public section

/-! # The kernel body in two stretches

The body of the kernel quantises the activations at the first grid point only, then multiplies at every point.
Here the two stretches are named (`quant`, `mainBody`) and the body is shown to be: at a point where the
condition holds, the first then the second, and at every other point the second alone. -/

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F]

/-- The quantising stretch: what the body runs under its condition. -/
def quant (i : grid0.Coords) (arg1 : Memref sig .tc .smem S56x64 .f32) (harg1 : arg1.IsWhole) (arg2 : Memref sig .tc .vmem S192x7168 .bf16) (harg2 : arg2.IsWhole) (arg3 : Memref sig .tc .vmem S7168x512 .fp8e4m3) (harg3 : arg3.IsWhole) (arg4 : Memref sig .tc .vmem S192x512 .bf16) (harg4 : arg4.IsWhole) (arg5 : Memref sig .tc .vmem S192x7168 .fp8e4m3) (harg5 : arg5.IsWhole) (arg6 : Memref sig .tc .vmem S192x56 .f32) (harg6 : arg6.IsWhole) (arg7 : Memref sig .tc .vmem S56x192x128 .f32) (harg7 : arg7.IsWhole) :
    Prog (TpuEff nD τ sig (Elt F) Λ₀ .tc) PUnit := do
  let ⟨v5404, v7905, v7986, v7996⟩ : Σ' (v5404 : IVec S192x56 32) (v7905 : FVec F S192x56 .f32) (v7986 : FVec F S192x128 .f32), FVec F S192x128 .f32 ← k0_part130 i arg1 harg1 arg2 harg2 arg3 harg3 arg4 harg4 arg5 harg5 arg6 harg6 arg7 harg7
  let ⟨v10505, v10508, v10581, v10586⟩ : Σ' (v10505 : FVec F S192x56 .f32) (v10508 : FVec F S192x128 .f32) (v10581 : IVec S192x128 32), FVec F S192x128 .f32 ← k0_part131 i arg1 harg1 arg2 harg2 arg3 harg3 arg4 harg4 arg5 harg5 arg6 harg6 arg7 harg7 v5404 v7905 v7986 v7996
  k0_part132 i arg1 harg1 arg2 harg2 arg3 harg3 arg4 harg4 arg5 harg5 arg6 harg6 arg7 harg7 v5404 v10505 v10508 v10581 v10586

/-- The first part of the multiplying stretch: its first loads. -/
def rest133 (i : grid0.Coords) (arg1 : Memref sig .tc .smem S56x64 .f32) (harg1 : arg1.IsWhole) (arg2 : Memref sig .tc .vmem S192x7168 .bf16) (harg2 : arg2.IsWhole) (arg3 : Memref sig .tc .vmem S7168x512 .fp8e4m3) (harg3 : arg3.IsWhole) (arg4 : Memref sig .tc .vmem S192x512 .bf16) (harg4 : arg4.IsWhole) (arg5 : Memref sig .tc .vmem S192x7168 .fp8e4m3) (harg5 : arg5.IsWhole) (arg6 : Memref sig .tc .vmem S192x56 .f32) (harg6 : arg6.IsWhole) (arg7 : Memref sig .tc .vmem S56x192x128 .f32) (harg7 : arg7.IsWhole) :
    Prog (TpuEff nD τ sig (Elt F) Λ₀ .tc) (Σ' (v3 : BitVec 32) (v20 : FVec F S96x128 .f32) (v29 : FVec F S96x128 .f32), FVec F S96x256 .f32) := do
  let arg0 : BitVec 32 := BitVec.ofNat 32 (i 0).val
  let v3 : BitVec 32 := Scalar.muli arg0 4#32
  let v6 : Vec F S96x128 .fp8e4m3 ← Prog.lift (.load arg5 (Rect.unit (s := S192x7168) ![0, 0] S96x128.size inb_S192x7168_S96x128_0_0).toLoadRect (View.loadsAt_vmem h_S96x128))
  let v8 : Vec F S128x256 .fp8e4m3 ← Prog.lift (.load arg3 (Rect.unit (s := S7168x512) ![0, 0] S128x256.size inb_S7168x512_S128x256_0_0).toLoadRect (View.loadsAt_vmem h_S128x256))
  let v10 : Vec F S1x96x128 .f32 ← Prog.lift (.load arg7 (Rect.unit (s := S56x192x128) ![0, 0, 0] S1x96x128.size inb_S56x192x128_S1x96x128_0_0_0).toLoadRect (View.loadsAt_vmem h_S1x96x128))
  let v15 : Elt F .f32 ← smemLoad arg1 (Rect.unit (s := S56x64) (k0_off1 i 0#32 0#32) S1x1.size (k0_off1_inb i 0 0)) numel1_S1x1 rfl
  let v24 : Elt F .f32 ← smemLoad arg1 (Rect.unit (s := S56x64) (k0_off1 i 0#32 1#32) S1x1.size (k0_off1_inb i 0 1)) numel1_S1x1 rfl
  let v30 : Vec F S96x128 .fp8e4m3 ← Prog.lift (.load arg5 (Rect.unit (s := S192x7168) ![0, 128] S96x128.size inb_S192x7168_S96x128_0_128).toLoadRect (View.loadsAt_vmem h_S96x128))
  let v32 : Vec F S128x256 .fp8e4m3 ← Prog.lift (.load arg3 (Rect.unit (s := S7168x512) ![128, 0] S128x256.size inb_S7168x512_S128x256_128_0).toLoadRect (View.loadsAt_vmem h_S128x256))
  pure ⟨v3, k0_pay610 v6 v8 v10 v15, k0_pay611 v6 v8 v10 v24, k0_pay612 v30 v32⟩

/-- The first sixty parts of the multiplying stretch. -/
def rest275 (i : grid0.Coords) (arg1 : Memref sig .tc .smem S56x64 .f32) (harg1 : arg1.IsWhole) (arg2 : Memref sig .tc .vmem S192x7168 .bf16) (harg2 : arg2.IsWhole) (arg3 : Memref sig .tc .vmem S7168x512 .fp8e4m3) (harg3 : arg3.IsWhole) (arg4 : Memref sig .tc .vmem S192x512 .bf16) (harg4 : arg4.IsWhole) (arg5 : Memref sig .tc .vmem S192x7168 .fp8e4m3) (harg5 : arg5.IsWhole) (arg6 : Memref sig .tc .vmem S192x56 .f32) (harg6 : arg6.IsWhole) (arg7 : Memref sig .tc .vmem S56x192x128 .f32) (harg7 : arg7.IsWhole) :
    Prog (TpuEff nD τ sig (Elt F) Λ₀ .tc) (Σ' (v3 : BitVec 32) (v2258 : FVec F S96x128 .f32), FVec F S96x128 .f32) := do
  let ⟨v3, v20, v29, v33⟩ : Σ' (v3 : BitVec 32) (v20 : FVec F S96x128 .f32) (v29 : FVec F S96x128 .f32), FVec F S96x256 .f32 ← rest133 i arg1 harg1 arg2 harg2 arg3 harg3 arg4 harg4 arg5 harg5 arg6 harg6 arg7 harg7
  let ⟨v53, v57, v59, v68, v70⟩ : Σ' (v53 : FVec F S96x128 .f32) (v57 : FVec F S96x256 .f32) (v59 : FVec F S96x128 .f32) (v68 : FVec F S96x128 .f32), BitVec 32 ← k0_part134 i arg1 harg1 arg2 harg2 arg3 harg3 arg4 harg4 arg5 harg5 arg6 harg6 arg7 harg7 v3 v20 v29 v33
  let ⟨v92, v101, v105, v107, c0_i32_56⟩ : Σ' (v92 : FVec F S96x128 .f32) (v101 : FVec F S96x128 .f32) (v105 : FVec F S96x256 .f32) (v107 : FVec F S96x128 .f32), BitVec 32 ← k0_part135 i arg1 harg1 arg2 harg2 arg3 harg3 arg4 harg4 arg5 harg5 arg6 harg6 arg7 harg7 v3 v53 v57 v59 v68 v70
  let ⟨v125, v140, v148⟩ : Σ' (v125 : FVec F S96x128 .f32) (v140 : FVec F S96x128 .f32), FVec F S96x128 .f32 ← k0_part136 i arg1 harg1 arg2 harg2 arg3 harg3 arg4 harg4 arg5 harg5 arg6 harg6 arg7 harg7 v3 v92 v101 v105 v107 c0_i32_56
  let ⟨v164, v173, v177, v179, v183⟩ : Σ' (v164 : FVec F S96x128 .f32) (v173 : FVec F S96x128 .f32) (v177 : FVec F S96x256 .f32) (v179 : FVec F S96x128 .f32), Elt F .f32 ← k0_part137 i arg1 harg1 arg2 harg2 arg3 harg3 arg4 harg4 arg5 harg5 arg6 harg6 arg7 harg7 v3 v125 v140 v148
  let ⟨v212, v221, v223⟩ : Σ' (v212 : FVec F S96x128 .f32) (v221 : FVec F S96x128 .f32), FVec F S96x128 .fp8e4m3 ← k0_part138 i arg1 harg1 arg2 harg2 arg3 harg3 arg4 harg4 arg5 harg5 arg6 harg6 arg7 harg7 v3 v164 v173 v177 v179 v183
  let ⟨v245, v249, v251, v260, c0_i32_131⟩ : Σ' (v245 : FVec F S96x128 .f32) (v249 : FVec F S96x256 .f32) (v251 : FVec F S96x128 .f32) (v260 : FVec F S96x128 .f32), BitVec 32 ← k0_part139 i arg1 harg1 arg2 harg2 arg3 harg3 arg4 harg4 arg5 harg5 arg6 harg6 arg7 harg7 v3 v212 v221 v223
  let ⟨v284, v293, v297⟩ : Σ' (v284 : FVec F S96x128 .f32) (v293 : FVec F S96x128 .f32), FVec F S96x256 .f32 ← k0_part140 i arg1 harg1 arg2 harg2 arg3 harg3 arg4 harg4 arg5 harg5 arg6 harg6 arg7 harg7 v3 v245 v249 v251 v260 c0_i32_131
  let ⟨v317, v321, v323, v332, v336⟩ : Σ' (v317 : FVec F S96x128 .f32) (v321 : FVec F S96x256 .f32) (v323 : FVec F S96x128 .f32) (v332 : FVec F S96x128 .f32), Elt F .f32 ← k0_part141 i arg1 harg1 arg2 harg2 arg3 harg3 arg4 harg4 arg5 harg5 arg6 harg6 arg7 harg7 v3 v284 v293 v297
  let ⟨v356, v365, v369, v371, v372, c0_i32_189⟩ : Σ' (v356 : FVec F S96x128 .f32) (v365 : FVec F S96x128 .f32) (v369 : FVec F S96x256 .f32) (v371 : FVec F S96x128 .f32) (v372 : BitVec 32), BitVec 32 ← k0_part142 i arg1 harg1 arg2 harg2 arg3 harg3 arg4 harg4 arg5 harg5 arg6 harg6 arg7 harg7 v3 v317 v321 v323 v332 v336
  let ⟨v404, v413⟩ : Σ' (v404 : FVec F S96x128 .f32), FVec F S96x128 .f32 ← k0_part143 i arg1 harg1 arg2 harg2 arg3 harg3 arg4 harg4 arg5 harg5 arg6 harg6 arg7 harg7 v3 v356 v365 v369 v371 v372 c0_i32_189
  let ⟨v428, v437, v441, v443, v447, v449⟩ : Σ' (v428 : FVec F S96x128 .f32) (v437 : FVec F S96x128 .f32) (v441 : FVec F S96x256 .f32) (v443 : FVec F S96x128 .f32) (v447 : Elt F .f32), FVec F S96x128 .f32 ← k0_part144 i arg1 harg1 arg2 harg2 arg3 harg3 arg4 harg4 arg5 harg5 arg6 harg6 arg7 harg7 v3 v404 v413
  let ⟨v476, v485, v487, v488⟩ : Σ' (v476 : FVec F S96x128 .f32) (v485 : FVec F S96x128 .f32) (v487 : FVec F S96x128 .fp8e4m3), Vec F S128x256 .fp8e4m3 ← k0_part145 i arg1 harg1 arg2 harg2 arg3 harg3 arg4 harg4 arg5 harg5 arg6 harg6 arg7 harg7 v3 v428 v437 v441 v443 v447 v449
  let ⟨v509, v513, v515, v524, v525, c1_i32_264⟩ : Σ' (v509 : FVec F S96x128 .f32) (v513 : FVec F S96x256 .f32) (v515 : FVec F S96x128 .f32) (v524 : FVec F S96x128 .f32) (v525 : BitVec 32), BitVec 32 ← k0_part146 i arg1 harg1 arg2 harg2 arg3 harg3 arg4 harg4 arg5 harg5 arg6 harg6 arg7 harg7 v3 v476 v485 v487 v488
  let ⟨v548, v557, v561, v562⟩ : Σ' (v548 : FVec F S96x128 .f32) (v557 : FVec F S96x128 .f32) (v561 : FVec F S96x256 .f32), Vec F S1x96x128 .f32 ← k0_part147 i arg1 harg1 arg2 harg2 arg3 harg3 arg4 harg4 arg5 harg5 arg6 harg6 arg7 harg7 v3 v509 v513 v515 v524 v525 c1_i32_264
  let ⟨v581, v596, v600, v602⟩ : Σ' (v581 : FVec F S96x128 .f32) (v596 : FVec F S96x128 .f32) (v600 : Elt F .f32), FVec F S96x128 .f32 ← k0_part148 i arg1 harg1 arg2 harg2 arg3 harg3 arg4 harg4 arg5 harg5 arg6 harg6 arg7 harg7 v3 v548 v557 v561 v562
  let ⟨v620, v629, v633, v635, v637⟩ : Σ' (v620 : FVec F S96x128 .f32) (v629 : FVec F S96x128 .f32) (v633 : FVec F S96x256 .f32) (v635 : FVec F S96x128 .f32), BitVec 32 ← k0_part149 i arg1 harg1 arg2 harg2 arg3 harg3 arg4 harg4 arg5 harg5 arg6 harg6 arg7 harg7 v3 v581 v596 v600 v602
  let ⟨v668, v677, v678⟩ : Σ' (v668 : FVec F S96x128 .f32) (v677 : FVec F S96x128 .f32), Vec F S96x128 .fp8e4m3 ← k0_part150 i arg1 harg1 arg2 harg2 arg3 harg3 arg4 harg4 arg5 harg5 arg6 harg6 arg7 harg7 v3 v620 v629 v633 v635 v637
  let ⟨v692, v701, v705, v707, v715⟩ : Σ' (v692 : FVec F S96x128 .f32) (v701 : FVec F S96x128 .f32) (v705 : FVec F S96x256 .f32) (v707 : FVec F S96x128 .f32), FVec F S96x128 .f32 ← k0_part151 i arg1 harg1 arg2 harg2 arg3 harg3 arg4 harg4 arg5 harg5 arg6 harg6 arg7 harg7 v3 v668 v677 v678
  let ⟨v740, v749, v753⟩ : Σ' (v740 : FVec F S96x128 .f32) (v749 : FVec F S96x128 .f32), FVec F S96x256 .f32 ← k0_part152 i arg1 harg1 arg2 harg2 arg3 harg3 arg4 harg4 arg5 harg5 arg6 harg6 arg7 harg7 v3 v692 v701 v705 v707 v715
  let ⟨v773, v777, v779, v788, v790⟩ : Σ' (v773 : FVec F S96x128 .f32) (v777 : FVec F S96x256 .f32) (v779 : FVec F S96x128 .f32) (v788 : FVec F S96x128 .f32), BitVec 32 ← k0_part153 i arg1 harg1 arg2 harg2 arg3 harg3 arg4 harg4 arg5 harg5 arg6 harg6 arg7 harg7 v3 v740 v749 v753
  let ⟨v812, v821, v825, v827, c0_i32_416⟩ : Σ' (v812 : FVec F S96x128 .f32) (v821 : FVec F S96x128 .f32) (v825 : FVec F S96x256 .f32) (v827 : FVec F S96x128 .f32), BitVec 32 ← k0_part154 i arg1 harg1 arg2 harg2 arg3 harg3 arg4 harg4 arg5 harg5 arg6 harg6 arg7 harg7 v3 v773 v777 v779 v788 v790
  let ⟨v845, v860, v868⟩ : Σ' (v845 : FVec F S96x128 .f32) (v860 : FVec F S96x128 .f32), FVec F S96x128 .f32 ← k0_part155 i arg1 harg1 arg2 harg2 arg3 harg3 arg4 harg4 arg5 harg5 arg6 harg6 arg7 harg7 v3 v812 v821 v825 v827 c0_i32_416
  let ⟨v884, v893, v897, v899, v903⟩ : Σ' (v884 : FVec F S96x128 .f32) (v893 : FVec F S96x128 .f32) (v897 : FVec F S96x256 .f32) (v899 : FVec F S96x128 .f32), Elt F .f32 ← k0_part156 i arg1 harg1 arg2 harg2 arg3 harg3 arg4 harg4 arg5 harg5 arg6 harg6 arg7 harg7 v3 v845 v860 v868
  let ⟨v932, v941, v943⟩ : Σ' (v932 : FVec F S96x128 .f32) (v941 : FVec F S96x128 .f32), FVec F S96x128 .fp8e4m3 ← k0_part157 i arg1 harg1 arg2 harg2 arg3 harg3 arg4 harg4 arg5 harg5 arg6 harg6 arg7 harg7 v3 v884 v893 v897 v899 v903
  let ⟨v965, v969, v971, v980, c0_i32_491⟩ : Σ' (v965 : FVec F S96x128 .f32) (v969 : FVec F S96x256 .f32) (v971 : FVec F S96x128 .f32) (v980 : FVec F S96x128 .f32), BitVec 32 ← k0_part158 i arg1 harg1 arg2 harg2 arg3 harg3 arg4 harg4 arg5 harg5 arg6 harg6 arg7 harg7 v3 v932 v941 v943
  let ⟨v1004, v1013, v1017⟩ : Σ' (v1004 : FVec F S96x128 .f32) (v1013 : FVec F S96x128 .f32), FVec F S96x256 .f32 ← k0_part159 i arg1 harg1 arg2 harg2 arg3 harg3 arg4 harg4 arg5 harg5 arg6 harg6 arg7 harg7 v3 v965 v969 v971 v980 c0_i32_491
  let ⟨v1037, v1041, v1043, v1052, v1056⟩ : Σ' (v1037 : FVec F S96x128 .f32) (v1041 : FVec F S96x256 .f32) (v1043 : FVec F S96x128 .f32) (v1052 : FVec F S96x128 .f32), Elt F .f32 ← k0_part160 i arg1 harg1 arg2 harg2 arg3 harg3 arg4 harg4 arg5 harg5 arg6 harg6 arg7 harg7 v3 v1004 v1013 v1017
  let ⟨v1076, v1085, v1089, v1091, v1092, c0_i32_549⟩ : Σ' (v1076 : FVec F S96x128 .f32) (v1085 : FVec F S96x128 .f32) (v1089 : FVec F S96x256 .f32) (v1091 : FVec F S96x128 .f32) (v1092 : BitVec 32), BitVec 32 ← k0_part161 i arg1 harg1 arg2 harg2 arg3 harg3 arg4 harg4 arg5 harg5 arg6 harg6 arg7 harg7 v3 v1037 v1041 v1043 v1052 v1056
  let ⟨v1124, v1133⟩ : Σ' (v1124 : FVec F S96x128 .f32), FVec F S96x128 .f32 ← k0_part162 i arg1 harg1 arg2 harg2 arg3 harg3 arg4 harg4 arg5 harg5 arg6 harg6 arg7 harg7 v3 v1076 v1085 v1089 v1091 v1092 c0_i32_549
  let ⟨v1148, v1157, v1161, v1163, v1167, v1169⟩ : Σ' (v1148 : FVec F S96x128 .f32) (v1157 : FVec F S96x128 .f32) (v1161 : FVec F S96x256 .f32) (v1163 : FVec F S96x128 .f32) (v1167 : Elt F .f32), FVec F S96x128 .f32 ← k0_part163 i arg1 harg1 arg2 harg2 arg3 harg3 arg4 harg4 arg5 harg5 arg6 harg6 arg7 harg7 v3 v1124 v1133
  let ⟨v1196, v1205, v1207, v1208⟩ : Σ' (v1196 : FVec F S96x128 .f32) (v1205 : FVec F S96x128 .f32) (v1207 : FVec F S96x128 .fp8e4m3), Vec F S128x256 .fp8e4m3 ← k0_part164 i arg1 harg1 arg2 harg2 arg3 harg3 arg4 harg4 arg5 harg5 arg6 harg6 arg7 harg7 v3 v1148 v1157 v1161 v1163 v1167 v1169
  let ⟨v1229, v1233, v1235, v1244, v1245, c1_i32_624⟩ : Σ' (v1229 : FVec F S96x128 .f32) (v1233 : FVec F S96x256 .f32) (v1235 : FVec F S96x128 .f32) (v1244 : FVec F S96x128 .f32) (v1245 : BitVec 32), BitVec 32 ← k0_part165 i arg1 harg1 arg2 harg2 arg3 harg3 arg4 harg4 arg5 harg5 arg6 harg6 arg7 harg7 v3 v1196 v1205 v1207 v1208
  let ⟨v1268, v1277, v1281, v1282⟩ : Σ' (v1268 : FVec F S96x128 .f32) (v1277 : FVec F S96x128 .f32) (v1281 : FVec F S96x256 .f32), Vec F S1x96x128 .f32 ← k0_part166 i arg1 harg1 arg2 harg2 arg3 harg3 arg4 harg4 arg5 harg5 arg6 harg6 arg7 harg7 v3 v1229 v1233 v1235 v1244 v1245 c1_i32_624
  let ⟨v1301, v1316, v1320, v1322⟩ : Σ' (v1301 : FVec F S96x128 .f32) (v1316 : FVec F S96x128 .f32) (v1320 : Elt F .f32), FVec F S96x128 .f32 ← k0_part167 i arg1 harg1 arg2 harg2 arg3 harg3 arg4 harg4 arg5 harg5 arg6 harg6 arg7 harg7 v3 v1268 v1277 v1281 v1282
  let ⟨v1354, v1355, v1357⟩ : Σ' (v1354 : FVec F S96x128 .f32) (v1355 : FVec F S96x128 .f32), FVec F S96x128 .fp8e4m3 ← k0_part168 i arg1 harg1 arg2 harg2 arg3 harg3 arg4 harg4 arg5 harg5 arg6 harg6 arg7 harg7 v3 v1301 v1316 v1320 v1322
  let ⟨v1379, v1383, v1385, v1394, c0_i32_704⟩ : Σ' (v1379 : FVec F S96x128 .f32) (v1383 : FVec F S96x256 .f32) (v1385 : FVec F S96x128 .f32) (v1394 : FVec F S96x128 .f32), BitVec 32 ← k0_part169 i arg1 harg1 arg2 harg2 arg3 harg3 arg4 harg4 arg5 harg5 arg6 harg6 arg7 harg7 v3 v1354 v1355 v1357
  let ⟨v1418, v1427, v1431⟩ : Σ' (v1418 : FVec F S96x128 .f32) (v1427 : FVec F S96x128 .f32), FVec F S96x256 .f32 ← k0_part170 i arg1 harg1 arg2 harg2 arg3 harg3 arg4 harg4 arg5 harg5 arg6 harg6 arg7 harg7 v3 v1379 v1383 v1385 v1394 c0_i32_704
  let ⟨v1451, v1455, v1457, v1466, v1470⟩ : Σ' (v1451 : FVec F S96x128 .f32) (v1455 : FVec F S96x256 .f32) (v1457 : FVec F S96x128 .f32) (v1466 : FVec F S96x128 .f32), Elt F .f32 ← k0_part171 i arg1 harg1 arg2 harg2 arg3 harg3 arg4 harg4 arg5 harg5 arg6 harg6 arg7 harg7 v3 v1418 v1427 v1431
  let ⟨v1490, v1499, v1503, v1505, v1506, c0_i32_772⟩ : Σ' (v1490 : FVec F S96x128 .f32) (v1499 : FVec F S96x128 .f32) (v1503 : FVec F S96x256 .f32) (v1505 : FVec F S96x128 .f32) (v1506 : BitVec 32), BitVec 32 ← k0_part172 i arg1 harg1 arg2 harg2 arg3 harg3 arg4 harg4 arg5 harg5 arg6 harg6 arg7 harg7 v3 v1451 v1455 v1457 v1466 v1470
  let ⟨v1538, v1547⟩ : Σ' (v1538 : FVec F S96x128 .f32), FVec F S96x128 .f32 ← k0_part173 i arg1 harg1 arg2 harg2 arg3 harg3 arg4 harg4 arg5 harg5 arg6 harg6 arg7 harg7 v3 v1490 v1499 v1503 v1505 v1506 c0_i32_772
  let ⟨v1562, v1571, v1575, v1577, v1581, v1583⟩ : Σ' (v1562 : FVec F S96x128 .f32) (v1571 : FVec F S96x128 .f32) (v1575 : FVec F S96x256 .f32) (v1577 : FVec F S96x128 .f32) (v1581 : Elt F .f32), FVec F S96x128 .f32 ← k0_part174 i arg1 harg1 arg2 harg2 arg3 harg3 arg4 harg4 arg5 harg5 arg6 harg6 arg7 harg7 v3 v1538 v1547
  let ⟨v1610, v1619, v1621, v1622⟩ : Σ' (v1610 : FVec F S96x128 .f32) (v1619 : FVec F S96x128 .f32) (v1621 : FVec F S96x128 .fp8e4m3), Vec F S128x256 .fp8e4m3 ← k0_part175 i arg1 harg1 arg2 harg2 arg3 harg3 arg4 harg4 arg5 harg5 arg6 harg6 arg7 harg7 v3 v1562 v1571 v1575 v1577 v1581 v1583
  let ⟨v1643, v1647, v1649, v1658, v1659, c1_i32_859⟩ : Σ' (v1643 : FVec F S96x128 .f32) (v1647 : FVec F S96x256 .f32) (v1649 : FVec F S96x128 .f32) (v1658 : FVec F S96x128 .f32) (v1659 : BitVec 32), BitVec 32 ← k0_part176 i arg1 harg1 arg2 harg2 arg3 harg3 arg4 harg4 arg5 harg5 arg6 harg6 arg7 harg7 v3 v1610 v1619 v1621 v1622
  let ⟨v1682, v1691, v1695, v1696⟩ : Σ' (v1682 : FVec F S96x128 .f32) (v1691 : FVec F S96x128 .f32) (v1695 : FVec F S96x256 .f32), Vec F S1x96x128 .f32 ← k0_part177 i arg1 harg1 arg2 harg2 arg3 harg3 arg4 harg4 arg5 harg5 arg6 harg6 arg7 harg7 v3 v1643 v1647 v1649 v1658 v1659 c1_i32_859
  let ⟨v1715, v1730, v1734, v1736⟩ : Σ' (v1715 : FVec F S96x128 .f32) (v1730 : FVec F S96x128 .f32) (v1734 : Elt F .f32), FVec F S96x128 .f32 ← k0_part178 i arg1 harg1 arg2 harg2 arg3 harg3 arg4 harg4 arg5 harg5 arg6 harg6 arg7 harg7 v3 v1682 v1691 v1695 v1696
  let ⟨v1754, v1763, v1767, v1769, v1771⟩ : Σ' (v1754 : FVec F S96x128 .f32) (v1763 : FVec F S96x128 .f32) (v1767 : FVec F S96x256 .f32) (v1769 : FVec F S96x128 .f32), BitVec 32 ← k0_part179 i arg1 harg1 arg2 harg2 arg3 harg3 arg4 harg4 arg5 harg5 arg6 harg6 arg7 harg7 v3 v1715 v1730 v1734 v1736
  let ⟨v1802, v1811, v1812⟩ : Σ' (v1802 : FVec F S96x128 .f32) (v1811 : FVec F S96x128 .f32), Vec F S96x128 .fp8e4m3 ← k0_part180 i arg1 harg1 arg2 harg2 arg3 harg3 arg4 harg4 arg5 harg5 arg6 harg6 arg7 harg7 v3 v1754 v1763 v1767 v1769 v1771
  let ⟨v1826, v1835, v1839, v1841, v1849⟩ : Σ' (v1826 : FVec F S96x128 .f32) (v1835 : FVec F S96x128 .f32) (v1839 : FVec F S96x256 .f32) (v1841 : FVec F S96x128 .f32), FVec F S96x128 .f32 ← k0_part181 i arg1 harg1 arg2 harg2 arg3 harg3 arg4 harg4 arg5 harg5 arg6 harg6 arg7 harg7 v3 v1802 v1811 v1812
  let ⟨v1874, v1883, v1887⟩ : Σ' (v1874 : FVec F S96x128 .f32) (v1883 : FVec F S96x128 .f32), FVec F S96x256 .f32 ← k0_part182 i arg1 harg1 arg2 harg2 arg3 harg3 arg4 harg4 arg5 harg5 arg6 harg6 arg7 harg7 v3 v1826 v1835 v1839 v1841 v1849
  let ⟨v1907, v1911, v1913, v1922, v1924⟩ : Σ' (v1907 : FVec F S96x128 .f32) (v1911 : FVec F S96x256 .f32) (v1913 : FVec F S96x128 .f32) (v1922 : FVec F S96x128 .f32), BitVec 32 ← k0_part183 i arg1 harg1 arg2 harg2 arg3 harg3 arg4 harg4 arg5 harg5 arg6 harg6 arg7 harg7 v3 v1874 v1883 v1887
  let ⟨v1946, v1955, v1959, v1961, c0_i32_1037⟩ : Σ' (v1946 : FVec F S96x128 .f32) (v1955 : FVec F S96x128 .f32) (v1959 : FVec F S96x256 .f32) (v1961 : FVec F S96x128 .f32), BitVec 32 ← k0_part184 i arg1 harg1 arg2 harg2 arg3 harg3 arg4 harg4 arg5 harg5 arg6 harg6 arg7 harg7 v3 v1907 v1911 v1913 v1922 v1924
  let ⟨v1979, v1994, v2002⟩ : Σ' (v1979 : FVec F S96x128 .f32) (v1994 : FVec F S96x128 .f32), FVec F S96x128 .f32 ← k0_part185 i arg1 harg1 arg2 harg2 arg3 harg3 arg4 harg4 arg5 harg5 arg6 harg6 arg7 harg7 v3 v1946 v1955 v1959 v1961 c0_i32_1037
  let ⟨v2018, v2027, v2031, v2033, v2037⟩ : Σ' (v2018 : FVec F S96x128 .f32) (v2027 : FVec F S96x128 .f32) (v2031 : FVec F S96x256 .f32) (v2033 : FVec F S96x128 .f32), Elt F .f32 ← k0_part186 i arg1 harg1 arg2 harg2 arg3 harg3 arg4 harg4 arg5 harg5 arg6 harg6 arg7 harg7 v3 v1979 v1994 v2002
  let ⟨v2066, v2075, v2077⟩ : Σ' (v2066 : FVec F S96x128 .f32) (v2075 : FVec F S96x128 .f32), FVec F S96x128 .fp8e4m3 ← k0_part187 i arg1 harg1 arg2 harg2 arg3 harg3 arg4 harg4 arg5 harg5 arg6 harg6 arg7 harg7 v3 v2018 v2027 v2031 v2033 v2037
  let ⟨v2099, v2103, v2105, v2114, c0_i32_1124⟩ : Σ' (v2099 : FVec F S96x128 .f32) (v2103 : FVec F S96x256 .f32) (v2105 : FVec F S96x128 .f32) (v2114 : FVec F S96x128 .f32), BitVec 32 ← k0_part188 i arg1 harg1 arg2 harg2 arg3 harg3 arg4 harg4 arg5 harg5 arg6 harg6 arg7 harg7 v3 v2066 v2075 v2077
  let ⟨v2138, v2147, v2151⟩ : Σ' (v2138 : FVec F S96x128 .f32) (v2147 : FVec F S96x128 .f32), FVec F S96x256 .f32 ← k0_part189 i arg1 harg1 arg2 harg2 arg3 harg3 arg4 harg4 arg5 harg5 arg6 harg6 arg7 harg7 v3 v2099 v2103 v2105 v2114 c0_i32_1124
  let ⟨v2171, v2175, v2177, v2186, v2190⟩ : Σ' (v2171 : FVec F S96x128 .f32) (v2175 : FVec F S96x256 .f32) (v2177 : FVec F S96x128 .f32) (v2186 : FVec F S96x128 .f32), Elt F .f32 ← k0_part190 i arg1 harg1 arg2 harg2 arg3 harg3 arg4 harg4 arg5 harg5 arg6 harg6 arg7 harg7 v3 v2138 v2147 v2151
  let ⟨v2210, v2219, v2223, v2225, v2226, c0_i32_1192⟩ : Σ' (v2210 : FVec F S96x128 .f32) (v2219 : FVec F S96x128 .f32) (v2223 : FVec F S96x256 .f32) (v2225 : FVec F S96x128 .f32) (v2226 : BitVec 32), BitVec 32 ← k0_part191 i arg1 harg1 arg2 harg2 arg3 harg3 arg4 harg4 arg5 harg5 arg6 harg6 arg7 harg7 v3 v2171 v2175 v2177 v2186 v2190
  let ⟨v2258, v2267⟩ : Σ' (v2258 : FVec F S96x128 .f32), FVec F S96x128 .f32 ← k0_part192 i arg1 harg1 arg2 harg2 arg3 harg3 arg4 harg4 arg5 harg5 arg6 harg6 arg7 harg7 v3 v2210 v2219 v2223 v2225 v2226 c0_i32_1192
  pure ⟨v3, v2258, v2267⟩

/-- The multiplying stretch. -/
def mainBody (i : grid0.Coords) (arg1 : Memref sig .tc .smem S56x64 .f32) (harg1 : arg1.IsWhole) (arg2 : Memref sig .tc .vmem S192x7168 .bf16) (harg2 : arg2.IsWhole) (arg3 : Memref sig .tc .vmem S7168x512 .fp8e4m3) (harg3 : arg3.IsWhole) (arg4 : Memref sig .tc .vmem S192x512 .bf16) (harg4 : arg4.IsWhole) (arg5 : Memref sig .tc .vmem S192x7168 .fp8e4m3) (harg5 : arg5.IsWhole) (arg6 : Memref sig .tc .vmem S192x56 .f32) (harg6 : arg6.IsWhole) (arg7 : Memref sig .tc .vmem S56x192x128 .f32) (harg7 : arg7.IsWhole) :
    Prog (TpuEff nD τ sig (Elt F) Λ₀ .tc) PUnit := do
  let ⟨v3, v2258, v2267⟩ : Σ' (v3 : BitVec 32) (v2258 : FVec F S96x128 .f32), FVec F S96x128 .f32 ← rest275 i arg1 harg1 arg2 harg2 arg3 harg3 arg4 harg4 arg5 harg5 arg6 harg6 arg7 harg7
  let ⟨v4526, v4535⟩ : Σ' (v4526 : FVec F S96x128 .f32), FVec F S96x128 .f32 ← k0_part276 i arg1 harg1 arg2 harg2 arg3 harg3 arg4 harg4 arg5 harg5 arg6 harg6 arg7 harg7 v3 v2258 v2267
  let ⟨v5375, v5379, v5381, v5390, v5391, c1_i32_3040⟩ : Σ' (v5375 : FVec F S96x128 .f32) (v5379 : FVec F S96x256 .f32) (v5381 : FVec F S96x128 .f32) (v5390 : FVec F S96x128 .f32) (v5391 : BitVec 32), BitVec 32 ← k0_part277 i arg1 harg1 arg2 harg2 arg3 harg3 arg4 harg4 arg5 harg5 arg6 harg6 arg7 harg7 v3 v4526 v4535
  let v5394 : Elt F .f32 ← smemLoad arg1 (Rect.unit (s := S56x64) (k0_off56 i 2#32 1#32) S1x1.size (k0_off56_inb i 1 1)) numel1_S1x1 rfl
  let v5401 : Vec F S96x128 .bf16 ← Prog.lift (.load arg4 (Rect.unit (s := S192x512) ![96, 256] S96x128.size inb_S192x512_S96x128_96_256).toLoadRect (View.loadsAt_vmem h_S96x128))
  Prog.lift (.store arg4 (Rect.unit (s := S192x512) ![96, 256] S96x128.size inb_S192x512_S96x128_96_256) (k0_pay1 v5390) Finset.univ (View.stores_vmem h_S96x128 (harg4.storeExact_slice rfl _ packedbf16_S192x512_S96x128_96_256) (fun _ => rfl)) (.inl rfl))
  let v5403 : Vec F S96x128 .bf16 ← Prog.lift (.load arg4 (Rect.unit (s := S192x512) ![96, 384] S96x128.size inb_S192x512_S96x128_96_384).toLoadRect (View.loadsAt_vmem h_S96x128))
  Prog.lift (.store arg4 (Rect.unit (s := S192x512) ![96, 384] S96x128.size inb_S192x512_S96x128_96_384) (k0_pay2 v5375 v5379 v5381 v5394) Finset.univ (View.stores_vmem h_S96x128 (harg4.storeExact_slice rfl _ packedbf16_S192x512_S96x128_96_384) (fun _ => rfl)) (.inl rfl))
  pure ⟨⟩

/-- The part of the body the condition stands in, by cases of the condition. -/
theorem part133_eq (i : grid0.Coords) (arg1 : Memref sig .tc .smem S56x64 .f32) (harg1 : arg1.IsWhole) (arg2 : Memref sig .tc .vmem S192x7168 .bf16) (harg2 : arg2.IsWhole) (arg3 : Memref sig .tc .vmem S7168x512 .fp8e4m3) (harg3 : arg3.IsWhole) (arg4 : Memref sig .tc .vmem S192x512 .bf16) (harg4 : arg4.IsWhole) (arg5 : Memref sig .tc .vmem S192x7168 .fp8e4m3) (harg5 : arg5.IsWhole) (arg6 : Memref sig .tc .vmem S192x56 .f32) (harg6 : arg6.IsWhole) (arg7 : Memref sig .tc .vmem S56x192x128 .f32) (harg7 : arg7.IsWhole) :
    k0_part133 (F := F) i arg1 harg1 arg2 harg2 arg3 harg3 arg4 harg4 arg5 harg5 arg6 harg6 arg7 harg7
      = if k0_cond1 i = 1#1 then (quant i arg1 harg1 arg2 harg2 arg3 harg3 arg4 harg4 arg5 harg5 arg6 harg6 arg7 harg7 >>= fun _ => rest133 i arg1 harg1 arg2 harg2 arg3 harg3 arg4 harg4 arg5 harg5 arg6 harg6 arg7 harg7) else rest133 i arg1 harg1 arg2 harg2 arg3 harg3 arg4 harg4 arg5 harg5 arg6 harg6 arg7 harg7 := by
  rw [k0_part133_eq_skeleton]
  unfold k0_part133_skel
  by_cases h : k0_cond1 i = 1#1
  · rw [if_pos h]
    simp only [h, dite_true]
    unfold quant
    simp only [bind_assoc]
    rfl
  · rw [if_neg h]
    simp only [h, dite_false]
    rfl

/-- The first sixty parts, by cases of the condition. -/
theorem part275_eq (i : grid0.Coords) (arg1 : Memref sig .tc .smem S56x64 .f32) (harg1 : arg1.IsWhole) (arg2 : Memref sig .tc .vmem S192x7168 .bf16) (harg2 : arg2.IsWhole) (arg3 : Memref sig .tc .vmem S7168x512 .fp8e4m3) (harg3 : arg3.IsWhole) (arg4 : Memref sig .tc .vmem S192x512 .bf16) (harg4 : arg4.IsWhole) (arg5 : Memref sig .tc .vmem S192x7168 .fp8e4m3) (harg5 : arg5.IsWhole) (arg6 : Memref sig .tc .vmem S192x56 .f32) (harg6 : arg6.IsWhole) (arg7 : Memref sig .tc .vmem S56x192x128 .f32) (harg7 : arg7.IsWhole) :
    k0_part275 (F := F) i arg1 harg1 arg2 harg2 arg3 harg3 arg4 harg4 arg5 harg5 arg6 harg6 arg7 harg7
      = if k0_cond1 i = 1#1 then (quant i arg1 harg1 arg2 harg2 arg3 harg3 arg4 harg4 arg5 harg5 arg6 harg6 arg7 harg7 >>= fun _ => rest275 i arg1 harg1 arg2 harg2 arg3 harg3 arg4 harg4 arg5 harg5 arg6 harg6 arg7 harg7) else rest275 i arg1 harg1 arg2 harg2 arg3 harg3 arg4 harg4 arg5 harg5 arg6 harg6 arg7 harg7 := by
  rw [k0_part275_eq_skeleton]
  unfold k0_part275_skel
  rw [part133_eq]
  by_cases h : k0_cond1 i = 1#1
  · rw [if_pos h, if_pos h, bind_assoc]; rfl
  · rw [if_neg h, if_neg h]; rfl

/-- The body, by cases of the condition. -/
theorem body_split (i : grid0.Coords) (arg1 : Memref sig .tc .smem S56x64 .f32) (harg1 : arg1.IsWhole) (arg2 : Memref sig .tc .vmem S192x7168 .bf16) (harg2 : arg2.IsWhole) (arg3 : Memref sig .tc .vmem S7168x512 .fp8e4m3) (harg3 : arg3.IsWhole) (arg4 : Memref sig .tc .vmem S192x512 .bf16) (harg4 : arg4.IsWhole) (arg5 : Memref sig .tc .vmem S192x7168 .fp8e4m3) (harg5 : arg5.IsWhole) (arg6 : Memref sig .tc .vmem S192x56 .f32) (harg6 : arg6.IsWhole) (arg7 : Memref sig .tc .vmem S56x192x128 .f32) (harg7 : arg7.IsWhole) :
    cc0__body (F := F) i arg1 harg1 arg2 harg2 arg3 harg3 arg4 harg4 arg5 harg5 arg6 harg6 arg7 harg7
      = if k0_cond1 i = 1#1 then (quant i arg1 harg1 arg2 harg2 arg3 harg3 arg4 harg4 arg5 harg5 arg6 harg6 arg7 harg7 >>= fun _ => mainBody i arg1 harg1 arg2 harg2 arg3 harg3 arg4 harg4 arg5 harg5 arg6 harg6 arg7 harg7) else mainBody i arg1 harg1 arg2 harg2 arg3 harg3 arg4 harg4 arg5 harg5 arg6 harg6 arg7 harg7 := by
  rw [cc0__body_eq_skeleton]
  unfold cc0__body_skel
  rw [part275_eq]
  by_cases h : k0_cond1 i = 1#1
  · rw [if_pos h, if_pos h, bind_assoc]; rfl
  · rw [if_neg h, if_neg h]; rfl

end Cert.KernelIdeal.Gen

end
-- ==== Proof.Spec.lean ====
module

public import proofs.«01_k».proof.Proof.Split

@[expose] public section

/-! # What the kernel body computes, block by block

The body is written out group after group. Here each of its blocks is stated once, as a function of the group (and
of the tile of the result), over the vectors the operands hold:

* `codesG`, `scaleG` of one group's 192 x 128 activations: its codes and its scale, in every lane;
* `scaleOut`: the array of scales, one select per group;
* `accY`: the sum over the groups a tile of the result accumulates.

The arrays the body leaves are the lists of these blocks: `codePieces`, `xsPieces`, `yPieces`. -/

set_option maxRecDepth 16384

noncomputable section

namespace Cert.KernelIdeal.Gen

open Idealize.ShloMosaic Idealize.ShloMosaic.TcCoe Idealize.ShloMosaic.Tactic
open Idealize.SL Idealize.SL.Sem

variable {F : FTy → Type} [FloatOps F]

/-! ## The quantiser of one group -/

/-- The activations of a group as 32-bit floats. -/
def valG (v : Vec F S192x128 .bf16) : FVec F S192x128 .f32 :=
  extf .f32 (shapeCast S192x128 v shapeCasts_S192x128_S192x128) bitsLt_bf16_f32

/-- The group's largest magnitude, row by row, times the constant 1/448, in every lane. -/
def tG (v : Vec F S192x128 .bf16) : FVec F S192x128 .f32 :=
  mulf (broadcastTo S192x128 (shapeCast S192x1 (shapeCast S192x1
      (multiReduction .maximumf [1] S192 (absf (valG v)) 0xFF800000#32 reduces_S192x128_S192 (.inl rfl) rfl)
      shapeCasts_S192_S192x1) shapeCasts_S192x1_S192x1) broadcasts_S192x1_S192x128)
    (broadcast S192x128 (Scalar.ofBits .f32 0x3B124925#32))

/-- One step of the search for the exponent field: keep the bit `k` unless `t` is below the float it gives. -/
def fieldStep (t : FVec F S192x128 .f32) (k : BitVec 32) (f : IVec S192x128 32) : IVec S192x128 32 :=
  select (cmpf .olt t (bitcastToFloat .f32 (shli (addi f (broadcast S192x128 k)) (broadcast S192x128 23#32)))) f
    (addi f (broadcast S192x128 k))

/-- The exponent field, bit by bit. -/
def fieldG (t : FVec F S192x128 .f32) : IVec S192x128 32 :=
  fieldStep t 1#32 (fieldStep t 2#32 (fieldStep t 4#32 (fieldStep t 8#32 (fieldStep t 16#32 (fieldStep t 32#32
    (fieldStep t 64#32 (fieldStep t 128#32 (broadcast S192x128 0#32))))))))

/-- The exponent of the scale. -/
def expG (t : FVec F S192x128 .f32) : IVec S192x128 32 :=
  select (ori (cmpf .oeq t (broadcast S192x128 (Scalar.ofBits .f32 0x00000000#32)))
      (cmpi .eq (fieldG t) (broadcast S192x128 255#32)))
    (broadcast S192x128 0#32) (subi (fieldG t) (broadcast S192x128 126#32))

/-- The scale of a group, in every lane. -/
def scaleG (v : Vec F S192x128 .bf16) : FVec F S192x128 .f32 :=
  bitcastToFloat .f32 (shli (addi (expG (tG v)) (broadcast S192x128 127#32)) (broadcast S192x128 23#32))

/-- Its inverse. -/
def invG (v : Vec F S192x128 .bf16) : FVec F S192x128 .f32 :=
  bitcastToFloat .f32 (shli (subi (broadcast S192x128 127#32) (expG (tG v))) (broadcast S192x128 23#32))

/-- The codes of a group. -/
def codesG (v : Vec F S192x128 .bf16) : FVec F S192x128 .fp8e4m3 :=
  truncf .fp8e4m3 (minimumf (broadcast S192x128 (Scalar.ofBits .f32 0x43E00000#32))
    (maximumf (broadcast S192x128 (Scalar.ofBits .f32 0xC3E00000#32)) (mulf (valG v) (invG v)))) bitsLt_fp8e4m3_f32

/-! ## The quantiser's stores -/

theorem inb_col (g : ℕ) : ∀ a, (![0, 128 * (g % 56)] : Fin 2 → ℕ) a + S192x128.size a ≤ S192x7168.size a := by
  have h : g % 56 < 56 := Nat.mod_lt _ (by decide)
  intro a
  fin_cases a
  · show 0 + 192 ≤ 192; omega
  · show 128 * (g % 56) + 128 ≤ 7168; omega

/-- The columns of group `g`. -/
def colR (g : ℕ) : Rect S192x7168 := Rect.unit ![0, 128 * (g % 56)] S192x128.size (inb_col g)

theorem inb_xs (g : ℕ) : ∀ a, (![g % 56, 0, 0] : Fin 3 → ℕ) a + S1x192x128.size a ≤ S56x192x128.size a := by
  have h : g % 56 < 56 := Nat.mod_lt _ (by decide)
  intro a
  fin_cases a
  · show g % 56 + 1 ≤ 56; omega
  · show 0 + 192 ≤ 192; omega
  · show 0 + 128 ≤ 128; omega

/-- The plane of group `g`. -/
def xsR (g : ℕ) : Rect S56x192x128 := Rect.unit ![g % 56, 0, 0] S1x192x128.size (inb_xs g)

/-- The activations of group `g`. -/
def blkX (x : Vec F S192x7168 .bf16) (g : ℕ) : Vec F S192x128 .bf16 := View.ld x (colR g)

/-- The codes stored, the last group first. -/
def codePieces (x : Vec F S192x7168 .bf16) : ℕ → List (View.Piece (Elt F) S192x7168 .fp8e4m3)
  | 0 => []
  | g + 1 => ⟨colR g, codesG (blkX x g)⟩ :: codePieces x g

/-- The scales stored for the multiplication, the last group first. -/
def xsPieces (x : Vec F S192x7168 .bf16) : ℕ → List (View.Piece (Elt F) S56x192x128 .f32)
  | 0 => []
  | g + 1 => ⟨xsR g, shapeCast S1x192x128 (scaleG (blkX x g)) shapeCasts_S192x128_S1x192x128⟩ :: xsPieces x g

/-- The array of scales after `g` groups. -/
def scaleOut (x : Vec F S192x7168 .bf16) : ℕ → FVec F S192x56 .f32
  | 0 => broadcast S192x56 (Scalar.ofBits .f32 0x00000000#32)
  | g + 1 => select (cmpi .eq (iota .tc S192x56 32 [1] iota_S192x56_d1_w32) (broadcast S192x56 (BitVec.ofNat 32 g)))
      (extractStridedSlice S192x56 ![0, 0] (scaleG (blkX x g)) slices_S192x128_o0_0_S192x56) (scaleOut x g)

/-- The codes of all groups. -/
def codesAll (x : Vec F S192x7168 .bf16) : Vec F S192x7168 .fp8e4m3 := View.canon (codePieces x 56)

/-- The scales of all groups, in every lane. -/
def xsAll (x : Vec F S192x7168 .bf16) : Vec F S56x192x128 .f32 := View.canon (xsPieces x 56)

/-- The array of scales. -/
def scaleAll (x : Vec F S192x7168 .bf16) : Vec F S192x56 .f32 := scaleOut x 56

/-! ## A tile of the result -/

theorem inb_cc (m : Fin 2) (g : ℕ) :
    ∀ a, (![96 * m.val, 128 * (g % 56)] : Fin 2 → ℕ) a + S96x128.size a ≤ S192x7168.size a := by
  have h : g % 56 < 56 := Nat.mod_lt _ (by decide)
  have hm := m.isLt
  intro a
  fin_cases a
  · show 96 * m.val + 96 ≤ 192; omega
  · show 128 * (g % 56) + 128 ≤ 7168; omega

/-- Rows half `m`, columns of group `g`, of the codes. -/
def ccR (m : Fin 2) (g : ℕ) : Rect S192x7168 := Rect.unit ![96 * m.val, 128 * (g % 56)] S96x128.size (inb_cc m g)

theorem inb_ww (n : Fin 2) (g : ℕ) :
    ∀ a, (![128 * (g % 56), 256 * n.val] : Fin 2 → ℕ) a + S128x256.size a ≤ S7168x512.size a := by
  have h : g % 56 < 56 := Nat.mod_lt _ (by decide)
  have hn := n.isLt
  intro a
  fin_cases a
  · show 128 * (g % 56) + 128 ≤ 7168; omega
  · show 256 * n.val + 256 ≤ 512; omega

/-- Rows of group `g`, columns half `n`, of the weights. -/
def wwR (n : Fin 2) (g : ℕ) : Rect S7168x512 := Rect.unit ![128 * (g % 56), 256 * n.val] S128x256.size (inb_ww n g)

theorem inb_ss (m : Fin 2) (g : ℕ) :
    ∀ a, (![g % 56, 96 * m.val, 0] : Fin 3 → ℕ) a + S1x96x128.size a ≤ S56x192x128.size a := by
  have h : g % 56 < 56 := Nat.mod_lt _ (by decide)
  have hm := m.isLt
  intro a
  fin_cases a
  · show g % 56 + 1 ≤ 56; omega
  · show 96 * m.val + 96 ≤ 192; omega
  · show 0 + 128 ≤ 128; omega

/-- Plane `g`, rows half `m`, of the scales. -/
def ssR (m : Fin 2) (g : ℕ) : Rect S56x192x128 := Rect.unit ![g % 56, 96 * m.val, 0] S1x96x128.size (inb_ss m g)

/-- Where the scale of the weights' block of group `g` and column block `2 n + j` of the point stands. -/
def wsOff (i : grid0.Coords) (g : ℕ) (n j : Fin 2) : Fin 2 → ℕ :=
  ![g % 56, k0_off1 i (BitVec.ofNat 32 (2 * n.val)) (BitVec.ofNat 32 j.val) 1]

theorem inb_wsOff (i : grid0.Coords) (g : ℕ) (n j : Fin 2) : ∀ a, wsOff i g n j a + S1x1.size a ≤ S56x64.size a := by
  have h : g % 56 < 56 := Nat.mod_lt _ (by decide)
  have h1 := k0_off1_inb i n j 1
  intro a
  fin_cases a
  · show g % 56 + 1 ≤ 56; omega
  · exact h1

/-- That scale. -/
def wsG (w0 : Vec F S56x64 .f32) (i : grid0.Coords) (g : ℕ) (n j : Fin 2) : Elt F .f32 :=
  View.ld w0 (Rect.unit (s := S56x64) (wsOff i g n j) S1x1.size (inb_wsOff i g n j)) (Shape.Idx.first (s := S1x1) (by decide))

/-- The products of one group: codes by weights. -/
def partY (w2 : Vec F S7168x512 .fp8e4m3) (c4 : Vec F S192x7168 .fp8e4m3) (n m : Fin 2) (g : ℕ) : FVec F S96x256 .f32 :=
  matmul dot_S96x128_S128x256_S96x256_1_0_0_1_n_n none
    (shapeCast S96x128 (View.ld c4 (ccR m g)) shapeCasts_S96x128_S96x128) (View.ld w2 (wwR n g))
    (constant S96x256 .f32 0x00000000#32)

theorem slices_half (j : Fin 2) : S96x256.Slices ![0, 128 * j.val] S96x128 := by
  have hj := j.isLt
  refine ⟨rfl, fun a => ?_⟩
  fin_cases a
  · show 0 + 96 ≤ 96; omega
  · show 128 * j.val + 128 ≤ 256; omega

/-- The sum over the first `g` groups, at rows half `m` and columns `256 n + 128 j` on. -/
def accY (w0 : Vec F S56x64 .f32) (w2 : Vec F S7168x512 .fp8e4m3) (c4 : Vec F S192x7168 .fp8e4m3)
    (s6 : Vec F S56x192x128 .f32) (i : grid0.Coords) (n m j : Fin 2) : ℕ → FVec F S96x128 .f32
  | 0 => broadcast S96x128 (Scalar.ofBits .f32 0x00000000#32)
  | g + 1 => addf (accY w0 w2 c4 s6 i n m j g)
      (mulf (mulf (extractStridedSlice S96x128 ![0, 128 * j.val] (partY w2 c4 n m g) (slices_half j))
          (shapeCast S96x128 (View.ld s6 (ssR m g)) shapeCasts_S1x96x128_S96x128))
        (broadcast S96x128 (wsG w0 i g n j)))

theorem inb_yy (n m j : Fin 2) :
    ∀ a, (![96 * m.val, 256 * n.val + 128 * j.val] : Fin 2 → ℕ) a + S96x128.size a ≤ S192x512.size a := by
  have hn := n.isLt
  have hm := m.isLt
  have hj := j.isLt
  intro a
  fin_cases a
  · show 96 * m.val + 96 ≤ 192; omega
  · show 256 * n.val + 128 * j.val + 128 ≤ 512; omega

/-- Where the tile stands in the point's block of the result. -/
def yyR (n m j : Fin 2) : Rect S192x512 :=
  Rect.unit ![96 * m.val, 256 * n.val + 128 * j.val] S96x128.size (inb_yy n m j)

/-- The tile stored. -/
def yPiece (w0 : Vec F S56x64 .f32) (w2 : Vec F S7168x512 .fp8e4m3) (c4 : Vec F S192x7168 .fp8e4m3)
    (s6 : Vec F S56x192x128 .f32) (i : grid0.Coords) (n m j : Fin 2) : View.Piece (Elt F) S192x512 .bf16 :=
  ⟨yyR n m j, truncf .bf16 (accY w0 w2 c4 s6 i n m j 56) bitsLt_bf16_f32⟩

/-- The eight tiles of the point's block, the last first. -/
def yPieces (w0 : Vec F S56x64 .f32) (w2 : Vec F S7168x512 .fp8e4m3) (c4 : Vec F S192x7168 .fp8e4m3)
    (s6 : Vec F S56x192x128 .f32) (i : grid0.Coords) : List (View.Piece (Elt F) S192x512 .bf16) :=
  [yPiece w0 w2 c4 s6 i 1 1 1, yPiece w0 w2 c4 s6 i 1 1 0, yPiece w0 w2 c4 s6 i 1 0 1, yPiece w0 w2 c4 s6 i 1 0 0,
    yPiece w0 w2 c4 s6 i 0 1 1, yPiece w0 w2 c4 s6 i 0 1 0, yPiece w0 w2 c4 s6 i 0 0 1, yPiece w0 w2 c4 s6 i 0 0 0]

/-- The point's block of the result. -/
def yBlk (w0 : Vec F S56x64 .f32) (w2 : Vec F S7168x512 .fp8e4m3) (c4 : Vec F S192x7168 .fp8e4m3)
    (s6 : Vec F S56x192x128 .f32) (i : grid0.Coords) : Vec F S192x512 .bf16 := View.canon (yPieces w0 w2 c4 s6 i)

end Cert.KernelIdeal.Gen

end
-- ==== Proof.MainRun.lean ====
module

public import proofs.«01_k».proof.Proof.Spec

@[expose] public section

/-! # The multiplying stretch

Run on whole operands holding the codes and the scales, it leaves the point's block of the result at `yBlk`. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The eight tiles fill the block. -/
theorem yPieces_cover (w0 : Vec F S56x64 .f32) (w2 : Vec F S7168x512 .fp8e4m3) (c4 : Vec F S192x7168 .fp8e4m3)
    (s6 : Vec F S56x192x128 .f32) (i : grid0.Coords) (y : S192x512.Idx) :
    ∃ p ∈ yPieces w0 w2 c4 s6 i, y ∈ p.1.set := by
  have h0 : (y 0).val < 192 := (y 0).isLt
  have h1 : (y 1).val < 512 := (y 1).isLt
  have key : ∀ n m j : Fin 2, (96 * m.val ≤ (y 0).val ∧ (y 0).val < 96 * m.val + 96) →
      (256 * n.val + 128 * j.val ≤ (y 1).val ∧ (y 1).val < 256 * n.val + 128 * j.val + 128) →
      y ∈ (yPiece w0 w2 c4 s6 i n m j).1.set := by
    intro n m j e0 e1
    unfold yPiece yyR
    dsimp only
    rw [Rect.mem_set_unit]
    intro a
    fin_cases a
    · exact e0
    · exact e1
  have hm : ∀ n m j : Fin 2, yPiece w0 w2 c4 s6 i n m j ∈ yPieces w0 w2 c4 s6 i := by
    intro n m j
    fin_cases n <;> fin_cases m <;> fin_cases j <;> simp [yPieces]
  refine ⟨_, hm ⟨(y 1).val / 256, by omega⟩ ⟨(y 0).val / 96, by omega⟩ ⟨(y 1).val % 256 / 128, by omega⟩,
    key _ _ _ ⟨?_, ?_⟩ ⟨?_, ?_⟩⟩ <;> simp only [] <;> omega

set_option maxHeartbeats 20000000 in
/-- The multiplying stretch, on whole operands: the scales of the weights, the weights' block, the codes and the
    scales of the activations come back as they were, the result's block holds `yBlk` of them. -/
theorem mainRun (c : Dev nD) (i : grid0.Coords)
    (arg1 : Memref sig .tc .smem S56x64 .f32) (harg1 : arg1.IsWhole)
    (arg2 : Memref sig .tc .vmem S192x7168 .bf16) (harg2 : arg2.IsWhole)
    (arg3 : Memref sig .tc .vmem S7168x512 .fp8e4m3) (harg3 : arg3.IsWhole)
    (arg4 : Memref sig .tc .vmem S192x512 .bf16) (harg4 : arg4.IsWhole)
    (arg5 : Memref sig .tc .vmem S192x7168 .fp8e4m3) (harg5 : arg5.IsWhole)
    (arg6 : Memref sig .tc .vmem S192x56 .f32) (harg6 : arg6.IsWhole)
    (arg7 : Memref sig .tc .vmem S56x192x128 .f32) (harg7 : arg7.IsWhole)
    (x0 : Vec F S56x64 .f32) (x2 : Vec F S7168x512 .fp8e4m3) (x4 : Vec F S192x7168 .fp8e4m3)
    (x6 : Vec F S56x192x128 .f32) :
      ∀ (E : Set ℕ) (K : PUnit → sProp 𝕄),
        iprop(owns (c : Thread nD τ) arg1 fullShare x0 ∗ owns (c : Thread nD τ) arg3 fullShare x2
            ∗ (∃ d, owns (c : Thread nD τ) arg4 fullShare d)
            ∗ owns (c : Thread nD τ) arg5 fullShare x4 ∗ owns (c : Thread nD τ) arg7 fullShare x6
            ∗ (iprop(owns (c : Thread nD τ) arg1 fullShare x0 ∗ owns (c : Thread nD τ) arg3 fullShare x2
                ∗ owns (c : Thread nD τ) arg4 fullShare (yBlk x0 x2 x4 x6 i)
                ∗ owns (c : Thread nD τ) arg5 fullShare x4 ∗ owns (c : Thread nD τ) arg7 fullShare x6) -∗ K ⟨⟩))
          ⊢ wp frame (wpE (defs₀ (F := F)) Variants.none c none) E
              (mainBody i arg1 harg1 arg2 harg2 arg3 harg3 arg4 harg4 arg5 harg5 arg6 harg6 arg7 harg7) K := by
    intro E K
    unfold mainBody rest275 rest133
    simp only [k0_part134_eq_skeleton, k0_part135_eq_skeleton, k0_part136_eq_skeleton, k0_part137_eq_skeleton,
      k0_part138_eq_skeleton, k0_part139_eq_skeleton, k0_part140_eq_skeleton, k0_part141_eq_skeleton,
      k0_part142_eq_skeleton, k0_part143_eq_skeleton, k0_part144_eq_skeleton, k0_part145_eq_skeleton,
      k0_part146_eq_skeleton, k0_part147_eq_skeleton, k0_part148_eq_skeleton, k0_part149_eq_skeleton,
      k0_part150_eq_skeleton, k0_part151_eq_skeleton, k0_part152_eq_skeleton, k0_part153_eq_skeleton,
      k0_part154_eq_skeleton, k0_part155_eq_skeleton, k0_part156_eq_skeleton, k0_part157_eq_skeleton,
      k0_part158_eq_skeleton, k0_part159_eq_skeleton, k0_part160_eq_skeleton, k0_part161_eq_skeleton,
      k0_part162_eq_skeleton, k0_part163_eq_skeleton, k0_part164_eq_skeleton, k0_part165_eq_skeleton,
      k0_part166_eq_skeleton, k0_part167_eq_skeleton, k0_part168_eq_skeleton, k0_part169_eq_skeleton,
      k0_part170_eq_skeleton, k0_part171_eq_skeleton, k0_part172_eq_skeleton, k0_part173_eq_skeleton,
      k0_part174_eq_skeleton, k0_part175_eq_skeleton, k0_part176_eq_skeleton, k0_part177_eq_skeleton,
      k0_part178_eq_skeleton, k0_part179_eq_skeleton, k0_part180_eq_skeleton, k0_part181_eq_skeleton,
      k0_part182_eq_skeleton, k0_part183_eq_skeleton, k0_part184_eq_skeleton, k0_part185_eq_skeleton,
      k0_part186_eq_skeleton, k0_part187_eq_skeleton, k0_part188_eq_skeleton, k0_part189_eq_skeleton,
      k0_part190_eq_skeleton, k0_part191_eq_skeleton, k0_part192_eq_skeleton, k0_part276_eq_skeleton,
      k0_part193_eq_skeleton, k0_part194_eq_skeleton, k0_part195_eq_skeleton, k0_part196_eq_skeleton,
      k0_part197_eq_skeleton, k0_part198_eq_skeleton, k0_part199_eq_skeleton, k0_part200_eq_skeleton,
      k0_part201_eq_skeleton, k0_part202_eq_skeleton, k0_part203_eq_skeleton, k0_part204_eq_skeleton,
      k0_part205_eq_skeleton, k0_part206_eq_skeleton, k0_part207_eq_skeleton, k0_part208_eq_skeleton,
      k0_part209_eq_skeleton, k0_part210_eq_skeleton, k0_part211_eq_skeleton, k0_part212_eq_skeleton,
      k0_part213_eq_skeleton, k0_part214_eq_skeleton, k0_part215_eq_skeleton, k0_part216_eq_skeleton,
      k0_part217_eq_skeleton, k0_part218_eq_skeleton, k0_part219_eq_skeleton, k0_part220_eq_skeleton,
      k0_part221_eq_skeleton, k0_part222_eq_skeleton, k0_part223_eq_skeleton, k0_part224_eq_skeleton,
      k0_part225_eq_skeleton, k0_part226_eq_skeleton, k0_part227_eq_skeleton, k0_part228_eq_skeleton,
      k0_part229_eq_skeleton, k0_part230_eq_skeleton, k0_part231_eq_skeleton, k0_part232_eq_skeleton,
      k0_part233_eq_skeleton, k0_part234_eq_skeleton, k0_part235_eq_skeleton, k0_part236_eq_skeleton,
      k0_part237_eq_skeleton, k0_part238_eq_skeleton, k0_part239_eq_skeleton, k0_part240_eq_skeleton,
      k0_part241_eq_skeleton, k0_part242_eq_skeleton, k0_part243_eq_skeleton, k0_part244_eq_skeleton,
      k0_part245_eq_skeleton, k0_part246_eq_skeleton, k0_part247_eq_skeleton, k0_part248_eq_skeleton,
      k0_part249_eq_skeleton, k0_part250_eq_skeleton, k0_part251_eq_skeleton, k0_part252_eq_skeleton,
      k0_part277_eq_skeleton, k0_part253_eq_skeleton, k0_part254_eq_skeleton, k0_part255_eq_skeleton,
      k0_part256_eq_skeleton, k0_part257_eq_skeleton, k0_part258_eq_skeleton, k0_part259_eq_skeleton,
      k0_part260_eq_skeleton, k0_part261_eq_skeleton, k0_part262_eq_skeleton, k0_part263_eq_skeleton,
      k0_part264_eq_skeleton, k0_part265_eq_skeleton, k0_part266_eq_skeleton, k0_part267_eq_skeleton,
      k0_part268_eq_skeleton, k0_part269_eq_skeleton, k0_part270_eq_skeleton, k0_part271_eq_skeleton,
      k0_part272_eq_skeleton, k0_part273_eq_skeleton, k0_part274_eq_skeleton]
    unfold owns
    iintro ⟨⟨%f0, %hf0, H0⟩, ⟨%f2, %hf2, H2⟩, ⟨%d3, %f3, -, H3⟩, ⟨%f4, %hf4, H4⟩, ⟨%f6, %hf6, H6⟩, Hk⟩
    subst hf0 hf2 hf4 hf6
    sl_exec
    sl_step
    iapply Hk
    isplitl [H0]
    · iexists f0; isplitr; · ipureintro; rfl
      iexact H0
    isplitl [H2]
    · iexists f2; isplitr; · ipureintro; rfl
      iexact H2
    isplitl [H3]
    · iexists _; isplitr
      swap; · iexact H3
      ipureintro
      exact View.read_writes_eq_canon arg4.view f3
        (yPieces (arg1.view.read _ f0) (arg3.view.read _ f2) (arg5.view.read _ f4) (arg7.view.read _ f6) i)
        (yPieces_cover _ _ _ _ _)
    isplitl [H4]
    · iexists f4; isplitr; · ipureintro; rfl
      iexact H4
    iexists f6; isplitr; · ipureintro; rfl
    iexact H6

end Cert.KernelIdeal.Gen

end
-- ==== Proof.QuantRun.lean ====
module

public import proofs.«01_k».proof.Proof.Spec
public import Idealize.ShloMosaic.Lib.Pipeline.Value

@[expose] public section

/-! # The quantising stretch

Run on the activations it leaves the codes, the array of scales and the scales for the multiplication. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A stored block of codes is some group's. -/
theorem mem_codePieces (x : Vec F S192x7168 .bf16) (p : View.Piece (Elt F) S192x7168 .fp8e4m3) :
    ∀ n, p ∈ codePieces x n ↔ ∃ g < n, p = ⟨colR g, codesG (blkX x g)⟩
  | 0 => by simp [codePieces]
  | n + 1 => by
    simp only [codePieces, List.mem_cons, mem_codePieces x p n]
    constructor
    · rintro (h | ⟨g, hg, h⟩)
      · exact ⟨n, by omega, h⟩
      · exact ⟨g, by omega, h⟩
    · rintro ⟨g, hg, h⟩
      rcases Nat.lt_succ_iff_lt_or_eq.mp hg with hg | rfl
      · exact .inr ⟨g, hg, h⟩
      · exact .inl h

/-- A stored plane of scales is some group's. -/
theorem mem_xsPieces (x : Vec F S192x7168 .bf16) (p : View.Piece (Elt F) S56x192x128 .f32) :
    ∀ n, p ∈ xsPieces x n ↔
      ∃ g < n, p = ⟨xsR g, shapeCast S1x192x128 (scaleG (blkX x g)) shapeCasts_S192x128_S1x192x128⟩
  | 0 => by simp [xsPieces]
  | n + 1 => by
    simp only [xsPieces, List.mem_cons, mem_xsPieces x p n]
    constructor
    · rintro (h | ⟨g, hg, h⟩)
      · exact ⟨n, by omega, h⟩
      · exact ⟨g, by omega, h⟩
    · rintro ⟨g, hg, h⟩
      rcases Nat.lt_succ_iff_lt_or_eq.mp hg with hg | rfl
      · exact .inr ⟨g, hg, h⟩
      · exact .inl h

/-- The groups' columns fill the codes. -/
theorem codePieces_cover (x : Vec F S192x7168 .bf16) (y : S192x7168.Idx) :
    ∃ p ∈ codePieces x 56, y ∈ p.1.set := by
  have h0 : (y 0).val < 192 := (y 0).isLt
  have h1 : (y 1).val < 7168 := (y 1).isLt
  refine ⟨_, (mem_codePieces x _ 56).mpr ⟨(y 1).val / 128, by omega, rfl⟩, ?_⟩
  dsimp only
  unfold colR
  rw [Rect.mem_set_unit]
  intro a
  fin_cases a
  · exact ⟨Nat.zero_le _, by show (y 0).val < 0 + 192; omega⟩
  · exact ⟨by show 128 * ((y 1).val / 128 % 56) ≤ (y 1).val; omega,
      by show (y 1).val < 128 * ((y 1).val / 128 % 56) + 128; omega⟩

/-- The groups' planes fill the scales. -/
theorem xsPieces_cover (x : Vec F S192x7168 .bf16) (y : S56x192x128.Idx) :
    ∃ p ∈ xsPieces x 56, y ∈ p.1.set := by
  have h0 : (y 0).val < 56 := (y 0).isLt
  have h1 : (y 1).val < 192 := (y 1).isLt
  have h2 : (y 2).val < 128 := (y 2).isLt
  refine ⟨_, (mem_xsPieces x _ 56).mpr ⟨(y 0).val, h0, rfl⟩, ?_⟩
  dsimp only
  unfold xsR
  rw [Rect.mem_set_unit]
  intro a
  fin_cases a
  · exact ⟨by show (y 0).val % 56 ≤ (y 0).val; omega, by show (y 0).val < (y 0).val % 56 + 1; omega⟩
  · exact ⟨Nat.zero_le _, by show (y 1).val < 0 + 192; omega⟩
  · exact ⟨Nat.zero_le _, by show (y 2).val < 0 + 128; omega⟩

set_option maxHeartbeats 20000000 in
/-- The quantising stretch, on whole operands: the activations come back as they were, the codes, the array of scales
    and the scales for the multiplication, whatever they were, hold the activations' quantisation. -/
theorem quantRun (c : Dev nD) (i : grid0.Coords)
    (arg1 : Memref sig .tc .smem S56x64 .f32) (harg1 : arg1.IsWhole)
    (arg2 : Memref sig .tc .vmem S192x7168 .bf16) (harg2 : arg2.IsWhole)
    (arg3 : Memref sig .tc .vmem S7168x512 .fp8e4m3) (harg3 : arg3.IsWhole)
    (arg4 : Memref sig .tc .vmem S192x512 .bf16) (harg4 : arg4.IsWhole)
    (arg5 : Memref sig .tc .vmem S192x7168 .fp8e4m3) (harg5 : arg5.IsWhole)
    (arg6 : Memref sig .tc .vmem S192x56 .f32) (harg6 : arg6.IsWhole)
    (arg7 : Memref sig .tc .vmem S56x192x128 .f32) (harg7 : arg7.IsWhole)
    (x1 : Vec F S192x7168 .bf16) :
      ∀ (E : Set ℕ) (K : PUnit → sProp 𝕄),
        iprop(owns (c : Thread nD τ) arg2 fullShare x1
            ∗ (∃ d, owns (c : Thread nD τ) arg5 fullShare d) ∗ (∃ d, owns (c : Thread nD τ) arg6 fullShare d)
            ∗ (∃ d, owns (c : Thread nD τ) arg7 fullShare d)
            ∗ (iprop(owns (c : Thread nD τ) arg2 fullShare x1
                ∗ owns (c : Thread nD τ) arg5 fullShare (codesAll x1)
                ∗ owns (c : Thread nD τ) arg6 fullShare (scaleAll x1)
                ∗ owns (c : Thread nD τ) arg7 fullShare (xsAll x1)) -∗ K ⟨⟩))
          ⊢ wp frame (wpE (defs₀ (F := F)) Variants.none c none) E
              (quant i arg1 harg1 arg2 harg2 arg3 harg3 arg4 harg4 arg5 harg5 arg6 harg6 arg7 harg7) K := by
    intro E K
    unfold quant
    simp only [k0_part130_eq_skeleton, k0_part131_eq_skeleton, k0_part132_eq_skeleton, k0_part1_eq_skeleton,
      k0_part2_eq_skeleton, k0_part3_eq_skeleton, k0_part4_eq_skeleton, k0_part5_eq_skeleton,
      k0_part6_eq_skeleton, k0_part7_eq_skeleton, k0_part8_eq_skeleton, k0_part9_eq_skeleton,
      k0_part10_eq_skeleton, k0_part11_eq_skeleton, k0_part12_eq_skeleton, k0_part13_eq_skeleton,
      k0_part14_eq_skeleton, k0_part15_eq_skeleton, k0_part16_eq_skeleton, k0_part17_eq_skeleton,
      k0_part18_eq_skeleton, k0_part19_eq_skeleton, k0_part20_eq_skeleton, k0_part21_eq_skeleton,
      k0_part22_eq_skeleton, k0_part23_eq_skeleton, k0_part24_eq_skeleton, k0_part25_eq_skeleton,
      k0_part26_eq_skeleton, k0_part27_eq_skeleton, k0_part28_eq_skeleton, k0_part29_eq_skeleton,
      k0_part30_eq_skeleton, k0_part31_eq_skeleton, k0_part32_eq_skeleton, k0_part33_eq_skeleton,
      k0_part34_eq_skeleton, k0_part35_eq_skeleton, k0_part36_eq_skeleton, k0_part37_eq_skeleton,
      k0_part38_eq_skeleton, k0_part39_eq_skeleton, k0_part40_eq_skeleton, k0_part41_eq_skeleton,
      k0_part42_eq_skeleton, k0_part43_eq_skeleton, k0_part44_eq_skeleton, k0_part45_eq_skeleton,
      k0_part46_eq_skeleton, k0_part47_eq_skeleton, k0_part48_eq_skeleton, k0_part49_eq_skeleton,
      k0_part50_eq_skeleton, k0_part51_eq_skeleton, k0_part52_eq_skeleton, k0_part53_eq_skeleton,
      k0_part54_eq_skeleton, k0_part55_eq_skeleton, k0_part56_eq_skeleton, k0_part57_eq_skeleton,
      k0_part58_eq_skeleton, k0_part59_eq_skeleton, k0_part60_eq_skeleton, k0_part61_eq_skeleton,
      k0_part62_eq_skeleton, k0_part63_eq_skeleton, k0_part64_eq_skeleton, k0_part65_eq_skeleton,
      k0_part66_eq_skeleton, k0_part67_eq_skeleton, k0_part68_eq_skeleton, k0_part69_eq_skeleton,
      k0_part70_eq_skeleton, k0_part71_eq_skeleton, k0_part72_eq_skeleton, k0_part73_eq_skeleton,
      k0_part74_eq_skeleton, k0_part75_eq_skeleton, k0_part76_eq_skeleton, k0_part77_eq_skeleton,
      k0_part78_eq_skeleton, k0_part79_eq_skeleton, k0_part80_eq_skeleton, k0_part81_eq_skeleton,
      k0_part82_eq_skeleton, k0_part83_eq_skeleton, k0_part84_eq_skeleton, k0_part85_eq_skeleton,
      k0_part86_eq_skeleton, k0_part87_eq_skeleton, k0_part88_eq_skeleton, k0_part89_eq_skeleton,
      k0_part90_eq_skeleton, k0_part91_eq_skeleton, k0_part92_eq_skeleton, k0_part93_eq_skeleton,
      k0_part94_eq_skeleton, k0_part95_eq_skeleton, k0_part96_eq_skeleton, k0_part97_eq_skeleton,
      k0_part98_eq_skeleton, k0_part99_eq_skeleton, k0_part100_eq_skeleton, k0_part101_eq_skeleton,
      k0_part102_eq_skeleton, k0_part103_eq_skeleton, k0_part104_eq_skeleton, k0_part105_eq_skeleton,
      k0_part106_eq_skeleton, k0_part107_eq_skeleton, k0_part108_eq_skeleton, k0_part109_eq_skeleton,
      k0_part110_eq_skeleton, k0_part111_eq_skeleton, k0_part112_eq_skeleton, k0_part113_eq_skeleton,
      k0_part114_eq_skeleton, k0_part115_eq_skeleton, k0_part116_eq_skeleton, k0_part117_eq_skeleton,
      k0_part118_eq_skeleton, k0_part119_eq_skeleton, k0_part120_eq_skeleton, k0_part121_eq_skeleton,
      k0_part122_eq_skeleton, k0_part123_eq_skeleton, k0_part124_eq_skeleton, k0_part125_eq_skeleton,
      k0_part126_eq_skeleton, k0_part127_eq_skeleton, k0_part128_eq_skeleton, k0_part129_eq_skeleton]
    unfold owns
    iintro ⟨⟨%f1, %hf1, H1⟩, ⟨%d4, %f4, -, H4⟩, ⟨%d5, %f5, -, H5⟩, ⟨%d6, %f6, -, H6⟩, Hk⟩
    subst hf1
    sl_exec
    sl_step
    iapply Hk
    isplitl [H1]
    · iexists f1; isplitr; · ipureintro; rfl
      iexact H1
    isplitl [H4]
    · iexists _; isplitr
      swap; · iexact H4
      ipureintro
      exact View.read_writes_eq_canon arg5.view f4 (codePieces (arg2.view.read _ f1) 56) (codePieces_cover _)
    isplitl [H5]
    · iexists _; isplitr
      swap; · iexact H5
      ipureintro
      refine (View.read_writes_eq_canon arg6.view f5
        [⟨Rect.unit (s := S192x56) ![0, 0] S192x56.size inb_S192x56_S192x56_0_0, scaleAll (arg2.view.read _ f1)⟩]
        fun y => ⟨_, List.mem_singleton_self _,
          View.mem_set_unit_zero (S := S192x56) (by funext a; fin_cases a <;> rfl) inb_S192x56_S192x56_0_0 y⟩).trans ?_
      exact View.canon_unit_zero (S := S192x56) (by funext a; fin_cases a <;> rfl) inb_S192x56_S192x56_0_0 _
    iexists _; isplitr
    swap; · iexact H6
    ipureintro
    exact View.read_writes_eq_canon arg7.view f6 (xsPieces (arg2.view.read _ f1) 56) (xsPieces_cover _)

end Cert.KernelIdeal.Gen

end
-- ==== Proof.KRun.lean ====
module

public import proofs.«01_k».proof.Proof.MainRun
public import proofs.«01_k».proof.Proof.QuantRun
public import proofs.«01_k».proof.Proof.Gen.KernelIdeal.Frame
public import Idealize.ShloMosaic.Lib.Claim
public import Idealize.ShloMosaic.Lib.Pipeline.TableIdle

@[expose] public section

/-! # The kernel's run, with the values it leaves

The first grid point quantises and multiplies, each later point multiplies with the codes and scales the first left. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at one point -/

/-- The body at the first point, on whole operands. -/
theorem runA (c : Dev nD) (i : grid0.Coords)
    (arg1 : Memref sig .tc .smem S56x64 .f32) (harg1 : arg1.IsWhole)
    (arg2 : Memref sig .tc .vmem S192x7168 .bf16) (harg2 : arg2.IsWhole)
    (arg3 : Memref sig .tc .vmem S7168x512 .fp8e4m3) (harg3 : arg3.IsWhole)
    (arg4 : Memref sig .tc .vmem S192x512 .bf16) (harg4 : arg4.IsWhole)
    (arg5 : Memref sig .tc .vmem S192x7168 .fp8e4m3) (harg5 : arg5.IsWhole)
    (arg6 : Memref sig .tc .vmem S192x56 .f32) (harg6 : arg6.IsWhole)
    (arg7 : Memref sig .tc .vmem S56x192x128 .f32) (harg7 : arg7.IsWhole)
    (hi : k0_cond1 i = 1#1) (x0 : Vec F S56x64 .f32) (x1 : Vec F S192x7168 .bf16) (x2 : Vec F S7168x512 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare (yBlk x0 x2 (codesAll x1) (xsAll x1) i)
                ∗ owns (c : Thread nD τ) arg5 fullShare (codesAll x1) ∗ owns (c : Thread nD τ) arg6 fullShare (scaleAll x1)
                ∗ owns (c : Thread nD τ) arg7 fullShare (xsAll x1)) -∗ K ⟨⟩))
          ⊢ wp frame (wpE (defs₀ (F := F)) Variants.none c none) E
              (cc0__body (F := F) i arg1 harg1 arg2 harg2 arg3 harg3 arg4 harg4 arg5 harg5 arg6 harg6 arg7 harg7) K := by
  intro E K
  rw [body_split, if_pos hi, wp_bind]
  iintro ⟨H1, H2, H3, H4, H5, H6, H7, Hk⟩
  iapply (quantRun c i arg1 harg1 arg2 harg2 arg3 harg3 arg4 harg4 arg5 harg5 arg6 harg6 arg7 harg7 x1) E _
  isplitl [H2]; · iexact H2
  isplitl [H5]; · iexact H5
  isplitl [H6]; · iexact H6
  isplitl [H7]; · iexact H7
  iintro ⟨H2, H5, H6, H7⟩
  iapply (mainRun c i arg1 harg1 arg2 harg2 arg3 harg3 arg4 harg4 arg5 harg5 arg6 harg6 arg7 harg7
    x0 x2 (codesAll x1) (xsAll x1)) E _
  isplitl [H1]; · iexact H1
  isplitl [H3]; · iexact H3
  isplitl [H4]; · iexact H4
  isplitl [H5]; · iexact H5
  isplitl [H7]; · iexact H7
  iintro ⟨H1, H3, H4, H5, H7⟩
  iapply Hk
  isplitl [H1]; · iexact H1
  isplitl [H2]; · iexact H2
  isplitl [H3]; · iexact H3
  isplitl [H4]; · iexact H4
  isplitl [H5]; · iexact H5
  isplitl [H6]; · iexact H6
  iexact H7

/-- The body at a later point, on whole operands. -/
theorem runB (c : Dev nD) (i : grid0.Coords)
    (arg1 : Memref sig .tc .smem S56x64 .f32) (harg1 : arg1.IsWhole)
    (arg2 : Memref sig .tc .vmem S192x7168 .bf16) (harg2 : arg2.IsWhole)
    (arg3 : Memref sig .tc .vmem S7168x512 .fp8e4m3) (harg3 : arg3.IsWhole)
    (arg4 : Memref sig .tc .vmem S192x512 .bf16) (harg4 : arg4.IsWhole)
    (arg5 : Memref sig .tc .vmem S192x7168 .fp8e4m3) (harg5 : arg5.IsWhole)
    (arg6 : Memref sig .tc .vmem S192x56 .f32) (harg6 : arg6.IsWhole)
    (arg7 : Memref sig .tc .vmem S56x192x128 .f32) (harg7 : arg7.IsWhole)
    (hi : ¬k0_cond1 i = 1#1) (x0 : Vec F S56x64 .f32) (x2 : Vec F S7168x512 .fp8e4m3) (x4 : Vec F S192x7168 .fp8e4m3)
    (x6 : Vec F S56x192x128 .f32) :
      ∀ (E : Set ℕ) (K : PUnit → sProp 𝕄),
        iprop(owns (c : Thread nD τ) arg1 fullShare x0 ∗ owns (c : Thread nD τ) arg3 fullShare x2
            ∗ (∃ d, owns (c : Thread nD τ) arg4 fullShare d) ∗ owns (c : Thread nD τ) arg5 fullShare x4 ∗ owns (c : Thread nD τ) arg7 fullShare x6
            ∗ (iprop(owns (c : Thread nD τ) arg1 fullShare x0 ∗ owns (c : Thread nD τ) arg3 fullShare x2
                ∗ owns (c : Thread nD τ) arg4 fullShare (yBlk x0 x2 x4 x6 i)
                ∗ owns (c : Thread nD τ) arg5 fullShare x4 ∗ owns (c : Thread nD τ) arg7 fullShare x6) -∗ K ⟨⟩))
          ⊢ wp frame (wpE (defs₀ (F := F)) Variants.none c none) E
              (cc0__body (F := F) i arg1 harg1 arg2 harg2 arg3 harg3 arg4 harg4 arg5 harg5 arg6 harg6 arg7 harg7) K := by
  intro E K
  rw [body_split, if_neg hi]
  exact mainRun c i arg1 harg1 arg2 harg2 arg3 harg3 arg4 harg4 arg5 harg5 arg6 harg6 arg7 harg7 x0 x2 x4 x6 E K

variable (m : (ℓ : Loc nD τ sig) → Buf (Elt F) ℓ) (ρ : Dev nD → PrngReg)

/-! ## The points -/

/-- The quantising stretch is run at the first point only. -/
theorem hcond0 : ∀ t : Fin cfg0.N, k0_cond1 (grid0.coords t) = 1#1 ↔ t.val = 0 :=
  (fun t => by
    have ht : t.val < 16 := Nat.lt_of_lt_of_eq t.isLt N_0
    have e0 : (grid0.coords t 0).val = t.val / 1 % 16 := Pipeline.Grid.coords_val t 0 (by decide) rfl
    simp only [k0_cond1, e0]
    word_cmp
   : ∀ t : Fin grid0.N, k0_cond1 (grid0.coords t) = 1#1 ↔ t.val = 0)

/-- The activations' window is the whole array, the same at every point. -/
theorem iblk_1_const (c : Dev nD) (t t' : Fin cfg0.N) : iblk m c 1 t = iblk m c 1 t' := rfl

/-- The scratch buffer, whole. -/
abbrev scM : Memref sig .tc .vmem S56x192x128 .f32 := Memref.whole cc0_scratch0

/-- The invariant of the class, the scratch buffer owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- After the first point the scratch buffer holds the scales of the activations. -/
def PhiS (c : Dev nD) : sProp 𝕄 :=
  iprop(owns (c : Thread nD τ) scM fullShare (xsAll (iblk m c 1 t0_0)) ∗ (∃ r, prngReg c r))

/-! ## The proof data -/

/-- What the body leaves in each window: an input its block; the result its block of products; the codes and the
    array of scales the activations' quantisation. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yBlk (iblk m c 0 t) (iblk m c 2 t) (codesAll (iblk m c 1 t0_0)) (xsAll (iblk m c 1 t0_0)) (grid0.coords t)
    | ⟨4, _⟩ => codesAll (iblk m c 1 t0_0)
    | ⟨5, _⟩ => scaleAll (iblk m c 1 t0_0)
  Φ t := if t.val = 0 then Pipeline.ΦA spec0 c else PhiS m c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t
    = yBlk (iblk m c 0 t) (iblk m c 2 t) (codesAll (iblk m c 1 t0_0)) (xsAll (iblk m c 1 t0_0)) (grid0.coords t) := by
  dsimp only [dats]
theorem after_4 (c : Dev nD) (t : Fin cfg0.N) : (dats m 0 c).after 4 t = codesAll (iblk m c 1 t0_0) := by
  dsimp only [dats]
theorem after_5 (c : Dev nD) (t : Fin cfg0.N) : (dats m 0 c).after 5 t = scaleAll (iblk m c 1 t0_0) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- Window 4 is idle at a point but the first. -/
theorem idle4 (t : Fin cfg0.N) : cfg0.idle 4 (cfg0.grid.coords t) = !(k0_cond1 (grid0.coords t) == 1#1) := rfl
/-- Window 5 is idle at a point but the first. -/
theorem idle5 (t : Fin cfg0.N) : cfg0.idle 5 (cfg0.grid.coords t) = !(k0_cond1 (grid0.coords t) == 1#1) := rfl

/-- A window stored at the first point and written back at the last holds what was stored at every later point. -/
theorem fresh_of (w : Fin cfg0.W) (hi : ∀ t, cfg0.idle w (cfg0.grid.coords t) = !(k0_cond1 (grid0.coords t) == 1#1))
    (hf : ∀ t : Fin cfg0.N, (cfg0.win w).flush t = true ↔ t.val % 16 = 15) :
    ∀ n, n + 1 < 16 → cfg0.fresh w (n + 1) = false := by
  have hN : cfg0.N = 16 := N_0
  have hf' : ∀ n (h : n < cfg0.N), n + 1 < 16 → (cfg0.win w).flush ⟨n, h⟩ = false := by
    intro n h hn
    rw [← Bool.not_eq_true, hf]
    show ¬ n % 16 = 15
    omega
  intro n
  induction n with
  | zero =>
    intro hn
    have h : 0 < cfg0.N := by omega
    rw [Pipeline.Cfg.fresh_succ cfg0 w 0 h, hf' 0 h hn, hi ⟨0, h⟩, (hcond0 ⟨0, h⟩).mpr rfl]
    rfl
  | succ n ih =>
    intro hn
    have h : n + 1 < cfg0.N := by omega
    rw [Pipeline.Cfg.fresh_succ cfg0 w (n + 1) h, hf' (n + 1) h hn, ih (by omega), Bool.and_false]
    rfl

theorem before_4 (c : Dev nD) (t : Fin cfg0.N) (ht : t.val ≠ 0) (d) :
    (dats m 0 c).before 4 t d = codesAll (iblk m c 1 t0_0) := by
  have hN : t.val < 16 := lt_of_lt_of_eq t.isLt (show cfg0.N = 16 from N_0)
  rw [(dats m 0 c).before_out_traj 4 rfl (fun _ _ => rfl)
    (fun t _ _ _ => by rw [after_4, after_4]) t.val t rfl d]
  have e : cfg0.fresh 4 t.val = false := by
    obtain ⟨n, hn⟩ := Nat.exists_eq_succ_of_ne_zero ht
    rw [hn]
    exact fresh_of 4 idle4 flush0_4 n (by omega)
  rw [e, after_4]
  rfl

theorem before_5 (c : Dev nD) (t : Fin cfg0.N) (ht : t.val ≠ 0) (d) :
    (dats m 0 c).before 5 t d = scaleAll (iblk m c 1 t0_0) := by
  have hN : t.val < 16 := lt_of_lt_of_eq t.isLt (show cfg0.N = 16 from N_0)
  rw [(dats m 0 c).before_out_traj 5 rfl (fun _ _ => rfl)
    (fun t _ _ _ => by rw [after_5, after_5]) t.val t rfl d]
  have e : cfg0.fresh 5 t.val = false := by
    obtain ⟨n, hn⟩ := Nat.exists_eq_succ_of_ne_zero ht
    rw [hn]
    exact fresh_of 5 idle5 flush0_5 n (by omega)
  rw [e, after_5]
  rfl

/-! ## The body obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- A window whose buffer holds what the body leaves is left so, idle or not. -/
theorem leaves_of (c : Dev nD) (w : Fin cfg0.W) (t : Fin cfg0.N)
    (h : cfg0.idle w (cfg0.grid.coords t) = true → ∃ d, (dats m 0 c).after w t = (dats m 0 c).before w t d) :
    owns (c : Thread nD τ) ((cfg0.win w).stage (cfg0.slots t w)) fullShare ((dats m 0 c).after w t)
      ⊢ ((dats m 0 c).leavesExact w t : sProp 𝕄) := by
  unfold Dat.leavesExact
  cases hi : cfg0.idle w (cfg0.grid.coords t)
  · exact .rfl
  · cases hf : (cfg0.win w).flush t
    · obtain ⟨d, e⟩ := h hi
      rw [e]
      iintro H
      iexists d
      iexact H
    · exact .rfl

set_option maxHeartbeats 2000000 in
theorem sound_body (c : Dev nD) (t : Fin cfg0.N) :
    bodyPre m c t ⊢ wp frame (wpE (defs₀ (F := F)) Variants.none c none) Set.univ (bodyAt0 t)
      (fun _ => bodyPost m c t) := by
  have h0 : ∀ d, (dats m 0 c).after 0 t = (dats m 0 c).before 0 t d := fun d => by rw [before_0, after_0]
  unfold bodyPre bodyPost bodyAt0
  simp only [before_0, before_1, before_2]
  rw [show (dats m 0 c).owesAt () t.succ = (dats m 0 c).owesAt () t.castSucc from rfl,
    show (dats m 0 c).Φ t.succ = PhiS m c from
      (show (dats m 0 c).Φ t.succ = if t.succ.val = 0 then Pipeline.ΦA spec0 c else PhiS m c from rfl).trans
        (if_neg (Nat.succ_ne_zero _)),
    show (dats m 0 c).Φ t.castSucc = if t.val = 0 then Pipeline.ΦA spec0 c else PhiS m c from rfl]
  by_cases ht : t.val = 0
  · have hc := (hcond0 t).mpr ht
    have n4 : cfg0.idle 4 (cfg0.grid.coords t) = false := by rw [idle4, hc]; rfl
    have n5 : cfg0.idle 5 (cfg0.grid.coords t) = false := by rw [idle5, hc]; rfl
    rw [if_pos ht, PhiA_eq]
    unfold PhiS
    iintro ⟨⟨HS, Hg⟩, Ho, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ _ _ hc
      (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS]; · iexact HS
    rw [iblk_1_const m c t t0_0]
    iintro ⟨H0, H1, H2, H3, H4, H5, HS⟩
    isplitl [HS Hg]
    · isplitl [HS]
      · iexact HS
      iexact Hg
    isplitl [Ho]; · iexact Ho
    isplitl [H0]; · iapply (leaves_of m c 0 t (fun h => absurd (show false = true from h) Bool.false_ne_true)); rw [after_0]; iexact H0
    isplitl [H1]; · iapply (leaves_of m c 1 t (fun h => absurd (show false = true from h) Bool.false_ne_true)); rw [after_1, iblk_1_const m c t t0_0]; iexact H1
    isplitl [H2]; · iapply (leaves_of m c 2 t (fun h => absurd (show false = true from h) Bool.false_ne_true)); rw [after_2]; iexact H2
    isplitl [H3]; · iapply (leaves_of m c 3 t (fun h => absurd (show false = true from h) Bool.false_ne_true)); rw [after_3]; iexact H3
    isplitl [H4]; · iapply (leaves_of m c 4 t (fun h => absurd h (by rw [n4]; decide))); rw [after_4]; iexact H4
    iapply (leaves_of m c 5 t (fun h => absurd h (by rw [n5]; decide))); rw [after_5]; iexact H5
  · have hc : ¬k0_cond1 (grid0.coords t) = 1#1 := fun h => ht ((hcond0 t).mp h)
    rw [if_neg ht]
    simp only [before_4 m c t ht, before_5 m c t ht]
    unfold PhiS
    iintro ⟨⟨HS, Hg⟩, Ho, ⟨%d0, H0⟩, ⟨%d1, H1⟩, ⟨%d2, H2⟩, ⟨%d3, H3⟩, ⟨%d4, H4⟩, ⟨%d5, H5⟩⟩
    iapply ((runB c (grid0.coords t) _ _ (st0_1 t) (hstage0_1 ((cfg0.slots t 1).cast nbuf0_1)) _ _ _ _ _ _ (st0_5 t)
      (hstage0_5 ((cfg0.slots t 5).cast nbuf0_5)) _ _ hc
      (iblk m c 0 t) (iblk m c 2 t) (codesAll (iblk m c 1 t0_0)) (xsAll (iblk m c 1 t0_0))) Set.univ _)
    isplitl [H0]; · iexact H0
    isplitl [H2]; · iexact H2
    isplitl [H3]; · iexists _; iexact H3
    isplitl [H4]; · iexact H4
    isplitl [HS]; · iexact HS
    iintro ⟨H0, H2, H3, H4, HS⟩
    isplitl [HS Hg]
    · isplitl [HS]
      · iexact HS
      iexact Hg
    isplitl [Ho]; · iexact Ho
    isplitl [H0]; · iapply (leaves_of m c 0 t (fun h => absurd (show false = true from h) Bool.false_ne_true)); rw [after_0]; iexact H0
    isplitl [H1]; · iapply (leaves_of m c 1 t (fun h => absurd (show false = true from h) Bool.false_ne_true)); rw [after_1]; iexact H1
    isplitl [H2]; · iapply (leaves_of m c 2 t (fun h => absurd (show false = true from h) Bool.false_ne_true)); rw [after_2]; iexact H2
    isplitl [H3]; · iapply (leaves_of m c 3 t (fun h => absurd (show false = true from h) Bool.false_ne_true)); rw [after_3]; iexact H3
    isplitl [H4]; · iapply (leaves_of m c 4 t (fun _ => ⟨d4, by rw [after_4, before_4 m c t ht]⟩)); rw [after_4]; iexact H4
    iapply (leaves_of m c 5 t (fun _ => ⟨d5, by rw [after_5, before_5 m c t ht]⟩)); rw [after_5]; iexact H5

/-- The body table's row at a point's slots. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- After the last point the scratch buffer is forgotten. -/
theorem PhiS_forget (c : Dev nD) : PhiS m c ⊢ (Pipeline.ΦA spec0 c : sProp 𝕄) := by
  rw [PhiA_eq]
  unfold PhiS
  iintro ⟨HS, Hg⟩
  isplitl [HS]
  · iexists _; iexact HS
  iexact Hg

set_option backward.isDefEq.respectTransparency.types false in
set_option maxHeartbeats 800000 in
/-- The launch, every counter at zero at the end. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl) (hout := fun c => PhiS_forget m c)

/-- The launch. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.Scale.lean ====
module

public import Idealize.ShloMosaic.Lib.Pointwise

@[expose] public section

/-! # The scale of a group, as the kernel and as the reference compute it

Both take the scale from the group's largest magnitude `a`, multiplied by the constant 1/448 rounded to 32 bits. The
kernel finds the exponent field of the product bit by bit and builds the scale's word from it; the reference counts the
powers of two that are not above the product. Here the two are scalar functions of `a`, and they agree for `a` zero,
or such that the scale and its inverse are normal floats. -/

set_option maxRecDepth 16384

noncomputable section

namespace Cert.Fp8

open Idealize.ShloMosaic

/-! ## The two computations -/

/-- One step of the kernel's search: keep the bit `k` unless `t` is below the float it gives. -/
def kStep (t : EReal) (k f : BitVec 32) : BitVec 32 :=
  Scalar.select (Ideal.cmp .olt t (Ideal.ofBits .f32 (IntOp.shli .vector (IntOp.addi f k) 23#32))) f (IntOp.addi f k)

/-- The exponent field the search ends with. -/
def kField (t : EReal) : BitVec 32 :=
  kStep t 1#32 (kStep t 2#32 (kStep t 4#32 (kStep t 8#32 (kStep t 16#32 (kStep t 32#32 (kStep t 64#32
    (kStep t 128#32 0#32)))))))

/-- The exponent of the kernel's scale. -/
def kExp (t : EReal) : BitVec 32 :=
  Scalar.select (IntOp.ori (Ideal.cmp .oeq t (Ideal.ofBits .f32 0x00000000#32)) (IntOp.cmpi .eq (kField t) 255#32))
    0#32 (IntOp.subi (kField t) 126#32)

/-- The largest magnitude times the rounded 1/448. -/
def scaled (a : EReal) : EReal := a * Ideal.ofBits .f32 0x3B124925#32

/-- The kernel's scale. -/
def kScale (a : EReal) : EReal :=
  Ideal.ofBits .f32 (IntOp.shli .vector (IntOp.addi (kExp (scaled a)) 127#32) 23#32)

/-- The kernel's inverse of the scale. -/
def kInv (a : EReal) : EReal :=
  Ideal.ofBits .f32 (IntOp.shli .vector (IntOp.subi 127#32 (kExp (scaled a))) 23#32)

/-- The exponent of the reference's scale. -/
def rExp (a : EReal) : EReal :=
  Scalar.select (Ideal.cmp .oeq a 0) 0
    ((∑ k : Fin 277, Scalar.select
      (Ideal.cmp .ole (Ideal.exp2 (((IntOp.subi (BitVec.ofNat 32 k.val) 149#32).toInt : ℝ) : EReal)) (scaled a))
      (1 : EReal) 0) - Ideal.ofBits .f32 0x43150000#32)

/-- The reference's scale. -/
def rScale (a : EReal) : EReal := Ideal.exp2 (rExp a)

/-- The reference's inverse of the scale. -/
def rInv (a : EReal) : EReal := Ideal.exp2 (0 - rExp a)

/-- Zero, or from 448 times the least normal float to the largest finite bf16. -/
def Fine (a : EReal) : Prop :=
  a = 0 ∨ (Ideal.ofBits .f32 0x04E00000#32 ≤ a ∧ a ≤ Ideal.ofBits .f32 0x7F7F0000#32)

/-! ## What both take of a group -/

/-- The largest magnitude of 128 values. -/
def amax (f : Fin 128 → EReal) : EReal :=
  Finset.fold max (Ideal.ofBits .f32 0xFF800000#32) (fun k => max (f k) (-(f k))) Finset.univ

/-- Clipped to [-448, 448]. -/
def clip (z : EReal) : EReal := min (Ideal.ofBits .f32 0x43E00000#32) (max (Ideal.ofBits .f32 0xC3E00000#32) z)

/-- The column of a group's lane. -/
def gcol (g : Fin 56) (l : Fin 128) : Fin 7168 := ⟨g.val * 128 + l.val, by have := g.isLt; have := l.isLt; omega⟩

theorem fexp2 (x : EReal) : FloatOps.exp2 (F := Ideal) (φ := .f32) x = Ideal.exp2 x := (rfl)

theorem fsitofp (b : BitVec 32) : FloatOps.sitofp (F := Ideal) .f32 b = ((b.toInt : ℝ) : EReal) := (rfl)

theorem fabsf (x : EReal) : FloatOps.absf (F := Ideal) (φ := .f32) x = max x (-x) := (rfl)

theorem fcmp (p : CmpFPredicate) (x y : EReal) : FloatOps.cmpf (F := Ideal) (φ := .f32) p x y = Ideal.cmp p x y := (rfl)

/-- The range, read off its three comparisons. -/
theorem fine_of_bits (a : EReal)
    (h : IntOp.ori (BitVec.ofBool (decide (a = 0)))
      (IntOp.andi (BitVec.ofBool (decide (Ideal.ofBits .f32 0x04E00000#32 ≤ a)))
        (BitVec.ofBool (decide (a ≤ Ideal.ofBits .f32 0x7F7F0000#32)))) = 1#1) : Fine a := by
  unfold Fine
  by_cases h0 : a = 0
  · exact Or.inl h0
  · by_cases h1 : Ideal.ofBits .f32 0x04E00000#32 ≤ a
    · by_cases h2 : a ≤ Ideal.ofBits .f32 0x7F7F0000#32
      · exact Or.inr ⟨h1, h2⟩
      · rw [decide_eq_false h0, decide_eq_false h2, decide_eq_true h1] at h
        exact absurd h (by decide)
    · rw [decide_eq_false h0, decide_eq_false h1] at h
      rcases Bool.eq_false_or_eq_true (decide (a ≤ Ideal.ofBits .f32 0x7F7F0000#32)) with e | e <;> rw [e] at h <;>
        exact absurd h (by decide)

/-! ## Words with a zero significand -/

/-- The float whose exponent field is `q`. -/
def word (q : ℕ) : EReal := Ideal.ofBits .f32 (IntOp.shli .vector (BitVec.ofNat 32 q) 23#32)

theorem fields (q : Fin 256) :
    ((IntOp.shli .vector (BitVec.ofNat 32 q.val) 23#32).extractLsb' 31 1 == 1#1) = false
      ∧ ((IntOp.shli .vector (BitVec.ofNat 32 q.val) 23#32).extractLsb' 23 8).toNat = q.val
      ∧ ((IntOp.shli .vector (BitVec.ofNat 32 q.val) 23#32).extractLsb' 0 23).toNat = 0 := by
  revert q; decide +kernel

/-- What a word with a clear sign and a zero significand denotes. -/
theorem ofBits_fields (b : BitVec 32) (q : ℕ) (hs : (b.extractLsb' 31 1 == 1#1) = false)
    (he : (b.extractLsb' 23 8).toNat = q) (hf : (b.extractLsb' 0 23).toNat = 0) (h1 : 1 ≤ q) :
    Ideal.ofBits .f32 b = if q = 255 then ⊤ else (((2 : ℝ) ^ ((q : ℤ) - 127) : ℝ) : EReal) := by
  have h : Ideal.ofBits .f32 b = Ideal.ieee 8 23 b := rfl
  rw [h]
  unfold Ideal.ieee
  simp only [Nat.reduceAdd, hs, he, hf, Nat.reducePow, Nat.reduceSub, if_true, Bool.false_eq_true, if_false]
  by_cases h255 : q = 255
  · rw [if_pos h255, if_pos h255]
  · rw [if_neg h255, if_neg h255, if_neg (by omega)]
    congr 1
    have : ((2 : ℝ) ^ ((q : ℤ) - (2 ^ 7 - 1) - (23 : ℕ))) = (2 : ℝ) ^ ((q : ℤ) - 127) * ((2 : ℝ) ^ 23)⁻¹ := by
      rw [show ((q : ℤ) - (2 ^ 7 - 1) - (23 : ℕ)) = ((q : ℤ) - 127) - 23 by norm_num, zpow_sub₀ (by norm_num)]
      norm_cast
    rw [this]
    norm_num
    ring

theorem word_normal (q : ℕ) (h1 : 1 ≤ q) (h2 : q ≤ 254) : word q = (((2 : ℝ) ^ ((q : ℤ) - 127) : ℝ) : EReal) := by
  obtain ⟨hs, he, hf⟩ := fields ⟨q, by omega⟩
  exact (ofBits_fields _ q hs he hf h1).trans (if_neg (by omega))

theorem word_top : word 255 = ⊤ := by
  obtain ⟨hs, he, hf⟩ := fields ⟨255, by omega⟩
  exact (ofBits_fields _ 255 hs he hf (by omega)).trans (if_pos rfl)

/-! ## The kernel's search -/

theorem ofBool_one (b : Prop) [Decidable b] : (BitVec.ofBool (decide b) = 1) ↔ b := by
  by_cases h : b <;> simp [h]

theorem select_cmp_olt {α : Type} (x y : EReal) (u v : α) :
    Scalar.select (Ideal.cmp .olt x y) u v = if x < y then u else v := by
  unfold Scalar.select Ideal.cmp
  simp only [ofBool_one]

theorem select_cmp_ole {α : Type} (x y : EReal) (u v : α) :
    Scalar.select (Ideal.cmp .ole x y) u v = if x ≤ y then u else v := by
  unfold Scalar.select Ideal.cmp
  simp only [ofBool_one]

theorem select_cmp_oeq {α : Type} (x y : EReal) (u v : α) :
    Scalar.select (Ideal.cmp .oeq x y) u v = if x = y then u else v := by
  unfold Scalar.select Ideal.cmp
  simp only [ofBool_one]

theorem kStep_spec {t : EReal} {p : ℕ} (H : ∀ q, 1 ≤ q → q ≤ 255 → (t < word q ↔ p < q)) (k n : ℕ) (hk : 1 ≤ k)
    (h1 : n ≤ p) (h2 : p < n + 2 * k) (h3 : n + 2 * k ≤ 256) :
    ∃ n', kStep t (BitVec.ofNat 32 k) (BitVec.ofNat 32 n) = BitVec.ofNat 32 n' ∧ n' ≤ p ∧ p < n' + k ∧ n' + k ≤ 256 := by
  have hadd : IntOp.addi (BitVec.ofNat 32 n) (BitVec.ofNat 32 k) = BitVec.ofNat 32 (n + k) :=
    (BitVec.ofNat_add n k).symm
  have hw := H (n + k) (by omega) (by omega)
  unfold kStep
  rw [select_cmp_olt, hadd]
  by_cases hp : p < n + k
  · exact ⟨n, if_pos (hw.mpr hp), h1, hp, by omega⟩
  · exact ⟨n + k, if_neg (fun h => hp (hw.mp h)), by omega, by omega, by omega⟩

theorem kField_eq {t : EReal} {p : ℕ} (hp : p ≤ 255) (H : ∀ q, 1 ≤ q → q ≤ 255 → (t < word q ↔ p < q)) :
    kField t = BitVec.ofNat 32 p := by
  obtain ⟨n1, e1, a1, b1, c1⟩ := kStep_spec H 128 0 (by omega) (by omega) (by omega) (by omega)
  obtain ⟨n2, e2, a2, b2, c2⟩ := kStep_spec H 64 n1 (by omega) a1 (by omega) (by omega)
  obtain ⟨n3, e3, a3, b3, c3⟩ := kStep_spec H 32 n2 (by omega) a2 (by omega) (by omega)
  obtain ⟨n4, e4, a4, b4, c4⟩ := kStep_spec H 16 n3 (by omega) a3 (by omega) (by omega)
  obtain ⟨n5, e5, a5, b5, c5⟩ := kStep_spec H 8 n4 (by omega) a4 (by omega) (by omega)
  obtain ⟨n6, e6, a6, b6, c6⟩ := kStep_spec H 4 n5 (by omega) a5 (by omega) (by omega)
  obtain ⟨n7, e7, a7, b7, c7⟩ := kStep_spec H 2 n6 (by omega) a6 (by omega) (by omega)
  obtain ⟨n8, e8, a8, b8, c8⟩ := kStep_spec H 1 n7 (by omega) a7 (by omega) (by omega)
  unfold kField
  rw [e1, e2, e3, e4, e5, e6, e7, e8, show n8 = p by omega]

/-- The field of a `t` between two neighbouring powers of two. -/
theorem kField_pow {t : ℝ} {p : ℕ} (h1 : 1 ≤ p) (h2 : p ≤ 253) (hlo : (2 : ℝ) ^ ((p : ℤ) - 127) ≤ t)
    (hhi : t < (2 : ℝ) ^ ((p : ℤ) - 126)) : kField (t : EReal) = BitVec.ofNat 32 p := by
  refine kField_eq (by omega) fun q hq1 hq2 => ?_
  by_cases hq : q = 255
  · subst hq
    rw [word_top]
    exact ⟨fun _ => by omega, fun _ => EReal.coe_lt_top t⟩
  · rw [word_normal q hq1 (by omega), EReal.coe_lt_coe_iff]
    constructor
    · intro h
      by_contra hn
      have : (2 : ℝ) ^ ((q : ℤ) - 127) ≤ (2 : ℝ) ^ ((p : ℤ) - 127) := zpow_le_zpow_right₀ (by norm_num) (by omega)
      linarith
    · intro h
      have : (2 : ℝ) ^ ((p : ℤ) - 126) ≤ (2 : ℝ) ^ ((q : ℤ) - 127) := zpow_le_zpow_right₀ (by norm_num) (by omega)
      linarith

/-! ## The kernel's scale -/

theorem kExp_zero : kExp 0 = 0#32 := by
  unfold kExp
  rw [Ideal.ofBits_zero_f32]
  unfold Scalar.select
  rw [if_pos]
  have : Ideal.cmp .oeq 0 0 = 1#1 := by unfold Ideal.cmp; simp
  rw [this]
  rcases BitVec.eq_zero_or_eq_one (IntOp.cmpi .eq (kField 0) 255#32) with h | h <;> rw [h] <;> decide

theorem kExp_pow {t : ℝ} {p : ℕ} (h1 : 1 ≤ p) (h2 : p ≤ 253) (hlo : (2 : ℝ) ^ ((p : ℤ) - 127) ≤ t)
    (hhi : t < (2 : ℝ) ^ ((p : ℤ) - 126)) : kExp (t : EReal) = BitVec.ofNat 32 p - 126#32 := by
  unfold kExp
  rw [kField_pow h1 h2 hlo hhi, Ideal.ofBits_zero_f32]
  have ht : (0 : ℝ) < t := lt_of_lt_of_le (zpow_pos (by norm_num) _) hlo
  have hc : Ideal.cmp .oeq (t : EReal) 0 = 0#1 := by
    unfold Ideal.cmp
    have : (t : EReal) ≠ 0 := by
      intro h
      rw [EReal.coe_eq_zero] at h
      exact ht.ne' h
    simp [this]
  have hi : IntOp.cmpi .eq (BitVec.ofNat 32 p) 255#32 = 0#1 := by
    unfold IntOp.cmpi
    have : BitVec.ofNat 32 p ≠ 255#32 := by
      intro h
      have := congrArg BitVec.toNat h
      simp only [BitVec.toNat_ofNat] at this
      omega
    have hb : (BitVec.ofNat 32 p == 255#32) = false := by simpa using this
    show BitVec.ofBool (BitVec.ofNat 32 p == 255#32) = 0#1
    rw [hb]
    rfl
  rw [hc, hi]
  rfl

theorem kScale_zero : kScale 0 = 1 := by
  unfold kScale scaled
  rw [zero_mul, kExp_zero]
  show word 127 = 1
  rw [word_normal 127 (by omega) (by omega)]
  norm_num

theorem kInv_zero : kInv 0 = 1 := by
  unfold kInv scaled
  rw [zero_mul, kExp_zero]
  show word 127 = 1
  rw [word_normal 127 (by omega) (by omega)]
  norm_num

theorem kScale_pow {a : EReal} {t : ℝ} {p : ℕ} (ha : scaled a = t) (h1 : 1 ≤ p) (h2 : p ≤ 252)
    (hlo : (2 : ℝ) ^ ((p : ℤ) - 127) ≤ t) (hhi : t < (2 : ℝ) ^ ((p : ℤ) - 126)) :
    kScale a = (((2 : ℝ) ^ ((p : ℤ) - 126) : ℝ) : EReal) := by
  unfold kScale
  rw [ha, kExp_pow h1 (by omega) hlo hhi]
  have : IntOp.addi (BitVec.ofNat 32 p - 126#32) 127#32 = BitVec.ofNat 32 (p + 1) := by
    apply BitVec.eq_of_toNat_eq
    simp only [IntOp.addi, BitVec.toNat_add, BitVec.toNat_sub, BitVec.toNat_ofNat]
    omega
  rw [this]
  show word (p + 1) = _
  rw [word_normal (p + 1) (by omega) (by omega)]
  norm_num
  ring_nf

theorem kInv_pow {a : EReal} {t : ℝ} {p : ℕ} (ha : scaled a = t) (h1 : 1 ≤ p) (h2 : p ≤ 252)
    (hlo : (2 : ℝ) ^ ((p : ℤ) - 127) ≤ t) (hhi : t < (2 : ℝ) ^ ((p : ℤ) - 126)) :
    kInv a = (((2 : ℝ) ^ (126 - (p : ℤ)) : ℝ) : EReal) := by
  unfold kInv
  rw [ha, kExp_pow h1 (by omega) hlo hhi]
  have : IntOp.subi 127#32 (BitVec.ofNat 32 p - 126#32) = BitVec.ofNat 32 (253 - p) := by
    apply BitVec.eq_of_toNat_eq
    simp only [IntOp.subi, BitVec.toNat_sub, BitVec.toNat_ofNat]
    omega
  rw [this]
  show word (253 - p) = _
  rw [word_normal (253 - p) (by omega) (by omega)]
  congr 2
  omega

/-! ## The reference's scale -/

theorem sum_below (n N : ℕ) :
    (∑ k : Fin n, if k.val < N then (1 : EReal) else 0) = (((min n N : ℕ) : ℝ) : EReal) := by
  induction n with
  | zero => simp
  | succ n ih =>
    rw [Fin.sum_univ_castSucc]
    simp only [Fin.val_castSucc, Fin.val_last]
    rw [ih]
    by_cases h : n < N
    · rw [if_pos h, min_eq_left (by omega), min_eq_left (by omega), ← EReal.coe_one, ← EReal.coe_add]
      push_cast
      rfl
    · rw [if_neg h, min_eq_right (by omega), min_eq_right (by omega), add_zero]

theorem toInt_sub149 (k : Fin 277) : (IntOp.subi (BitVec.ofNat 32 k.val) 149#32).toInt = (k.val : ℤ) - 149 := by
  revert k; decide +kernel

theorem exp2_int (z : ℤ) : Ideal.exp2 ((z : ℝ) : EReal) = (((2 : ℝ) ^ z : ℝ) : EReal) := by
  rw [Ideal.exp2_coe]
  exact congrArg _ (Real.rpow_intCast 2 z)

theorem ofBits_149 : Ideal.ofBits .f32 0x43150000#32 = ((149 : ℝ) : EReal) := by
  simp [Ideal.ofBits, Ideal.ieee, -EReal.coe_mul]; norm_num

theorem rExp_zero : rExp 0 = 0 := by
  unfold rExp
  rw [select_cmp_oeq, if_pos rfl]

theorem rExp_pow {a : EReal} {t : ℝ} {p : ℕ} (ha0 : a ≠ 0) (ha : scaled a = t) (h1 : 1 ≤ p) (h2 : p ≤ 252)
    (hlo : (2 : ℝ) ^ ((p : ℤ) - 127) ≤ t) (hhi : t < (2 : ℝ) ^ ((p : ℤ) - 126)) :
    rExp a = ((((p : ℤ) - 126 : ℤ) : ℝ) : EReal) := by
  unfold rExp
  rw [select_cmp_oeq, if_neg ha0, ofBits_149, ha]
  have hk : ∀ k : Fin 277, Scalar.select
      (Ideal.cmp .ole (Ideal.exp2 (((IntOp.subi (BitVec.ofNat 32 k.val) 149#32).toInt : ℝ) : EReal)) (t : EReal))
      (1 : EReal) 0 = if k.val < p + 23 then 1 else 0 := by
    intro k
    rw [select_cmp_ole, toInt_sub149, exp2_int]
    by_cases h : k.val < p + 23
    · rw [if_pos h, if_pos]
      rw [EReal.coe_le_coe_iff]
      exact le_trans (zpow_le_zpow_right₀ (by norm_num) (by omega)) hlo
    · rw [if_neg h, if_neg]
      rw [EReal.coe_le_coe_iff]
      refine not_le.mpr (lt_of_lt_of_le hhi (zpow_le_zpow_right₀ (by norm_num) (by omega)))
  rw [Finset.sum_congr rfl fun k _ => hk k, sum_below, min_eq_right (by omega), ← EReal.coe_sub]
  congr 1
  push_cast
  ring

theorem rScale_zero : rScale 0 = 1 := by
  unfold rScale
  rw [rExp_zero]
  have := exp2_int 0
  simpa using this

theorem rInv_zero : rInv 0 = 1 := by
  unfold rInv
  rw [rExp_zero, sub_zero]
  have := exp2_int 0
  simpa using this

/-! ## They agree -/

theorem ofBits_lo : Ideal.ofBits .f32 0x04E00000#32 = ((448 * (2 : ℝ) ^ (-126 : ℤ) : ℝ) : EReal) := by
  simp [Ideal.ofBits, Ideal.ieee, -EReal.coe_mul]; norm_num

theorem ofBits_hi : Ideal.ofBits .f32 0x7F7F0000#32 = ((255 * (2 : ℝ) ^ (120 : ℤ) : ℝ) : EReal) := by
  simp [Ideal.ofBits, Ideal.ieee, -EReal.coe_mul]; norm_num

theorem ofBits_c : Ideal.ofBits .f32 0x3B124925#32 = ((9586981 / 2 ^ 32 : ℝ) : EReal) := by
  simp [Ideal.ofBits, Ideal.ieee, -EReal.coe_mul]; norm_num

/-- A magnitude in the range gives a product between two neighbouring powers of two. -/
theorem exists_pow {a : EReal} (hlo : Ideal.ofBits .f32 0x04E00000#32 ≤ a) (hhi : a ≤ Ideal.ofBits .f32 0x7F7F0000#32) :
    a ≠ 0 ∧ ∃ (t : ℝ) (p : ℕ), scaled a = t ∧ 1 ≤ p ∧ p ≤ 252 ∧ (2 : ℝ) ^ ((p : ℤ) - 127) ≤ t
      ∧ t < (2 : ℝ) ^ ((p : ℤ) - 126) := by
  rw [ofBits_lo] at hlo
  rw [ofBits_hi] at hhi
  induction a using EReal.rec with
  | bot => exact absurd (le_bot_iff.mp hlo) (EReal.coe_ne_bot _)
  | top => exact absurd (top_le_iff.mp hhi) (EReal.coe_ne_top _)
  | coe r =>
    rw [EReal.coe_le_coe_iff] at hlo hhi
    have hu : (0 : ℝ) < (2 : ℝ) ^ (-126 : ℤ) := zpow_pos (by norm_num) _
    have hr : 0 < r := by linarith
    have hs : scaled (r : EReal) = ((r * (9586981 / 2 ^ 32) : ℝ) : EReal) := by
      unfold scaled
      rw [ofBits_c, EReal.coe_mul]
    refine ⟨fun h => hr.ne' (EReal.coe_eq_zero.mp h), r * (9586981 / 2 ^ 32), ?_⟩
    rw [hs]
    have ht1 : (2 : ℝ) ^ (-126 : ℤ) ≤ r * (9586981 / 2 ^ 32) := by
      have : 448 * (2 : ℝ) ^ (-126 : ℤ) * (9586981 / 2 ^ 32) ≤ r * (9586981 / 2 ^ 32) :=
        mul_le_mul_of_nonneg_right hlo (by norm_num)
      refine le_trans ?_ this
      have : (1 : ℝ) ≤ 448 * (9586981 / 2 ^ 32) := by norm_num
      nlinarith
    have ht2 : r * (9586981 / 2 ^ 32) < (2 : ℝ) ^ (120 : ℤ) := by
      have : r * (9586981 / 2 ^ 32) ≤ 255 * (2 : ℝ) ^ (120 : ℤ) * (9586981 / 2 ^ 32) :=
        mul_le_mul_of_nonneg_right hhi (by norm_num)
      refine lt_of_le_of_lt this ?_
      have hv : (0 : ℝ) < (2 : ℝ) ^ (120 : ℤ) := zpow_pos (by norm_num) _
      have : (255 : ℝ) * (9586981 / 2 ^ 32) < 1 := by norm_num
      nlinarith
    generalize r * (9586981 / 2 ^ 32) = t at ht1 ht2 ⊢
    have ht : 0 < t := by linarith
    obtain ⟨l, e1, e2⟩ := exists_mem_Ico_zpow ht (by norm_num : (1 : ℝ) < 2)
    have l1 : -126 < l + 1 := (zpow_lt_zpow_iff_right₀ (by norm_num : (1 : ℝ) < 2)).mp (lt_of_le_of_lt ht1 e2)
    have l2 : l < 120 := (zpow_lt_zpow_iff_right₀ (by norm_num : (1 : ℝ) < 2)).mp (lt_of_le_of_lt e1 ht2)
    refine ⟨(l + 127).toNat, rfl, by omega, by omega, ?_, ?_⟩
    · rwa [show (((l + 127).toNat : ℕ) : ℤ) - 127 = l by omega]
    · rwa [show (((l + 127).toNat : ℕ) : ℤ) - 126 = l + 1 by omega]

/-- The scales agree. -/
theorem kScale_eq {a : EReal} (h : Fine a) : kScale a = rScale a := by
  rcases h with rfl | ⟨hlo, hhi⟩
  · rw [kScale_zero, rScale_zero]
  · obtain ⟨h0, t, p, ha, h1, h2, h3, h4⟩ := exists_pow hlo hhi
    rw [kScale_pow ha h1 h2 h3 h4]
    unfold rScale
    rw [rExp_pow h0 ha h1 h2 h3 h4, exp2_int]

/-- Their inverses agree. -/
theorem kInv_eq {a : EReal} (h : Fine a) : kInv a = rInv a := by
  rcases h with rfl | ⟨hlo, hhi⟩
  · rw [kInv_zero, rInv_zero]
  · obtain ⟨h0, t, p, ha, h1, h2, h3, h4⟩ := exists_pow hlo hhi
    rw [kInv_pow ha h1 h2 h3 h4]
    unfold rInv
    rw [rExp_pow h0 ha h1 h2 h3 h4, zero_sub, ← EReal.coe_neg, ← Int.cast_neg, exp2_int, neg_sub]

end Cert.Fp8

end
-- ==== Proof.KVal.lean ====
module

public import proofs.«01_k».proof.Proof.MainRun
public import proofs.«01_k».proof.Proof.QuantRun
public import proofs.«01_k».proof.Proof.Scale
public import Idealize.ShloMosaic.Lib.Pipeline.Value

@[expose] public section

/-! # The kernel's blocks, element by element

Over the extended reals, what each of the kernel's blocks holds at an index: the codes are the activations times the
inverse scale, clipped; the scales are the scalar function `kScale` of the largest magnitude of the row's group; and the
result is the sum over the groups of the group's product, scaled on both sides. -/

set_option maxRecDepth 16384

noncomputable section

namespace Cert.KernelIdeal.Gen

open Idealize.ShloMosaic Cert.Fp8

/-! ## One group -/

theorem valG_apply (v : Vec Ideal S192x128 .bf16) (i : S192x128.Idx) : valG (F := Ideal) v i = v i := by
  pointwise [valG]

theorem tG_apply (v : Vec Ideal S192x128 .bf16) (r : Fin 192) (l : Fin 128) :
    tG (F := Ideal) v (ix2 r l) = scaled (amax fun k => v (ix2 r k)) := by
  pointwise [tG, valG]
  rfl

theorem fieldStep_apply (t : FVec Ideal S192x128 .f32) (k : BitVec 32) (f : IVec S192x128 32) (i : S192x128.Idx) :
    fieldStep (F := Ideal) t k f i = kStep (t i) k (f i) := rfl

theorem fieldG_apply (t : FVec Ideal S192x128 .f32) (i : S192x128.Idx) : fieldG (F := Ideal) t i = kField (t i) := by
  unfold fieldG kField
  simp only [fieldStep_apply]
  rfl

/-- The exponent at an index, over whatever field the search gives. -/
theorem expSel_apply (t : FVec Ideal S192x128 .f32) (f : IVec S192x128 32) (i : S192x128.Idx) :
    select (ori (cmpf .oeq t (broadcast S192x128 (Scalar.ofBits (F := Ideal) .f32 0x00000000#32)))
        (cmpi .eq f (broadcast S192x128 255#32)))
      (broadcast S192x128 0#32) (subi f (broadcast S192x128 126#32)) i
      = Scalar.select (IntOp.ori (Ideal.cmp .oeq (t i) (Ideal.ofBits .f32 0x00000000#32)) (IntOp.cmpi .eq (f i) 255#32))
        0#32 (IntOp.subi (f i) 126#32) := rfl

theorem expG_apply (t : FVec Ideal S192x128 .f32) (i : S192x128.Idx) : expG (F := Ideal) t i = kExp (t i) := by
  unfold expG kExp
  rw [expSel_apply, fieldG_apply]

theorem scaleG_apply (v : Vec Ideal S192x128 .bf16) (r : Fin 192) (l : Fin 128) :
    scaleG (F := Ideal) v (ix2 r l) = kScale (amax fun k => v (ix2 r k)) := by
  have h : ∀ (e : IVec S192x128 32) (i : S192x128.Idx),
      bitcastToFloat (F := Ideal) .f32 (shli (addi e (broadcast S192x128 127#32)) (broadcast S192x128 23#32)) i
        = Ideal.ofBits .f32 (IntOp.shli .vector (IntOp.addi (e i) 127#32) 23#32) := fun _ _ => rfl
  unfold scaleG kScale
  rw [h, expG_apply, tG_apply]

theorem invG_apply (v : Vec Ideal S192x128 .bf16) (r : Fin 192) (l : Fin 128) :
    invG (F := Ideal) v (ix2 r l) = kInv (amax fun k => v (ix2 r k)) := by
  have h : ∀ (e : IVec S192x128 32) (i : S192x128.Idx),
      bitcastToFloat (F := Ideal) .f32 (shli (subi (broadcast S192x128 127#32) e) (broadcast S192x128 23#32)) i
        = Ideal.ofBits .f32 (IntOp.shli .vector (IntOp.subi 127#32 (e i)) 23#32) := fun _ _ => rfl
  unfold invG kInv
  rw [h, expG_apply, tG_apply]

theorem codesG_apply (v : Vec Ideal S192x128 .bf16) (r : Fin 192) (l : Fin 128) :
    codesG (F := Ideal) v (ix2 r l) = clip (v (ix2 r l) * kInv (amax fun k => v (ix2 r k))) := by
  have h : ∀ (a b : FVec Ideal S192x128 .f32) (i : S192x128.Idx),
      truncf .fp8e4m3 (minimumf (broadcast S192x128 (Scalar.ofBits (F := Ideal) .f32 0x43E00000#32))
        (maximumf (broadcast S192x128 (Scalar.ofBits (F := Ideal) .f32 0xC3E00000#32)) (mulf a b))) bitsLt_fp8e4m3_f32 i
        = clip (a i * b i) := fun _ _ _ => rfl
  unfold codesG
  rw [h, valG_apply, invG_apply]

theorem blkX_apply (x : Vec Ideal S192x7168 .bf16) (g : Fin 56) (r : Fin 192) (l : Fin 128) :
    blkX (F := Ideal) x g.val (ix2 r l) = x (ix2 r (gcol g l)) := by
  unfold blkX colR gcol
  pointwise
  congr 2
  apply Fin.ext
  show 128 * (g.val % 56) + l.val = _
  rw [Nat.mod_eq_of_lt g.isLt, mul_comm]

/-- The largest magnitude of a row's group. -/
def gmax (x : Vec Ideal S192x7168 .bf16) (r : Fin 192) (g : Fin 56) : EReal := amax fun k => x (ix2 r (gcol g k))

/-! ## The arrays of all groups -/

/-- The group of a column. -/
def grp (c : Fin 7168) : Fin 56 := ⟨c.val / 128, by omega⟩

theorem grp_gcol (g : Fin 56) (l : Fin 128) : grp (gcol g l) = g := by
  apply Fin.ext
  show (g.val * 128 + l.val) / 128 = g.val
  omega

theorem codesAll_apply (x : Vec Ideal S192x7168 .bf16) (r : Fin 192) (c : Fin 7168) :
    codesAll (F := Ideal) x (ix2 r c) = clip (x (ix2 r c) * kInv (gmax x r (grp c))) := by
  refine View.canon_apply_of_pieces
    (fun y : S192x7168.Idx => clip (x (ix2 (y 0) (y 1)) * kInv (gmax x (y 0) (grp (y 1))))) _ ?_ _ (codePieces_cover x _)
  intro p hp
  obtain ⟨g, hg, rfl⟩ := (mem_codePieces x p 56).mp hp
  have key : ∀ y : S192x128.Idx, codesG (F := Ideal) (blkX x g) y
      = (fun y : S192x7168.Idx => clip (x (ix2 (y 0) (y 1)) * kInv (gmax x (y 0) (grp (y 1))))) ((colR g).emb y) := by
    intro y
    obtain ⟨r, l, rfl⟩ : ∃ (r : Fin 192) (l : Fin 128), y = ix2 r l := ⟨y 0, y 1, eq_ix2 y⟩
    have he : (colR g).emb (ix2 r l) = ix2 r (gcol ⟨g, hg⟩ l) := by
      refine Shape.idx_ext₂ ?_ ?_
      · show 0 + 1 * r.val = r.val; omega
      · show 128 * (g % 56) + 1 * l.val = g * 128 + l.val
        rw [Nat.mod_eq_of_lt hg]; omega
    have e : (fun y : S192x7168.Idx => clip (x (ix2 (y 0) (y 1)) * kInv (gmax x (y 0) (grp (y 1)))))
        (ix2 r (gcol ⟨g, hg⟩ l)) = clip (x (ix2 r (gcol ⟨g, hg⟩ l)) * kInv (gmax x r (grp (gcol ⟨g, hg⟩ l)))) := rfl
    rw [he, e, grp_gcol, codesG_apply]
    unfold gmax
    simp only [blkX_apply x ⟨g, hg⟩]
  exact key

theorem cast_addUnit (u : FVec Ideal S192x128 .f32) (z : Fin 1) (r : Fin 192) (l : Fin 128) :
    shapeCast S1x192x128 u shapeCasts_S192x128_S1x192x128 (ix3 z r l) = u (ix2 r l) := by pointwise

theorem xsAll_apply (x : Vec Ideal S192x7168 .bf16) (g : Fin 56) (r : Fin 192) (l : Fin 128) :
    xsAll (F := Ideal) x (ix3 g r l) = kScale (gmax x r g) := by
  refine View.canon_apply_of_pieces
    (fun y : S56x192x128.Idx => kScale (gmax x (y 1) (y 0))) _ ?_ _ (xsPieces_cover x _)
  intro p hp
  obtain ⟨g, hg, rfl⟩ := (mem_xsPieces x p 56).mp hp
  have key : ∀ y : S1x192x128.Idx, shapeCast S1x192x128 (scaleG (F := Ideal) (blkX x g)) shapeCasts_S192x128_S1x192x128 y
      = (fun y : S56x192x128.Idx => kScale (gmax x (y 1) (y 0))) ((xsR g).emb y) := by
    intro y
    obtain ⟨z, r, l, rfl⟩ : ∃ (z : Fin 1) (r : Fin 192) (l : Fin 128), y = ix3 z r l := ⟨y 0, y 1, y 2, eq_ix3 y⟩
    have he : (xsR g).emb (ix3 z r l) = ix3 ⟨g, hg⟩ r l := by
      funext a
      apply Fin.ext
      fin_cases a
      · show g % 56 + 1 * z.val = g
        rw [Nat.mod_eq_of_lt hg]; omega
      · show 0 + 1 * r.val = r.val; omega
      · show 0 + 1 * l.val = l.val; omega
    have e : (fun y : S56x192x128.Idx => kScale (gmax x (y 1) (y 0))) (ix3 ⟨g, hg⟩ r l) = kScale (gmax x r ⟨g, hg⟩) := rfl
    rw [he, e, cast_addUnit, scaleG_apply]
    unfold gmax
    simp only [blkX_apply x ⟨g, hg⟩]
  exact key

/-- After `n` groups the array of scales holds those of the groups before `n`. -/
theorem scaleOut_apply (x : Vec Ideal S192x7168 .bf16) (r : Fin 192) (g : Fin 56) :
    ∀ n, g.val < n → n ≤ 56 → scaleOut (F := Ideal) x n (ix2 r g) = kScale (gmax x r g)
  | 0, h, _ => absurd h (Nat.not_lt_zero _)
  | n + 1, h, hn => by
    have hl : (g.val : ℕ) < 128 := by omega
    have e : scaleOut (F := Ideal) x (n + 1) (ix2 r g)
        = Scalar.select (IntOp.cmpi .eq (BitVec.ofNat 32 g.val) (BitVec.ofNat 32 n))
            (scaleG (F := Ideal) (blkX x n) (ix2 r ⟨g.val, hl⟩)) (scaleOut (F := Ideal) x n (ix2 r g)) := by
      rw [scaleOut]
      pointwise
    rw [e]
    by_cases hg : g.val = n
    · subst hg
      have : IntOp.cmpi .eq (BitVec.ofNat 32 g.val) (BitVec.ofNat 32 g.val) = 1#1 := by simp [IntOp.cmpi]
      rw [this, ValueIdx.select_one, scaleG_apply]
      simp only [blkX_apply x g]
      rfl
    · have hne : (BitVec.ofNat 32 g.val == BitVec.ofNat 32 n) = false := by
        rw [beq_eq_false_iff_ne]
        intro hb
        have := congrArg BitVec.toNat hb
        simp only [BitVec.toNat_ofNat] at this
        omega
      have : IntOp.cmpi .eq (BitVec.ofNat 32 g.val) (BitVec.ofNat 32 n) = 0#1 := by
        show BitVec.ofBool (BitVec.ofNat 32 g.val == BitVec.ofNat 32 n) = 0#1
        rw [hne]; rfl
      rw [this, ValueIdx.select_zero]
      exact scaleOut_apply x r g n (by omega) (by omega)

theorem scaleAll_apply (x : Vec Ideal S192x7168 .bf16) (r : Fin 192) (g : Fin 56) :
    scaleAll (F := Ideal) x (ix2 r g) = kScale (gmax x r g) := scaleOut_apply x r g 56 g.isLt le_rfl

/-! ## A tile of the result -/

theorem rowLt (m : Fin 2) (r : Fin 96) : 96 * m.val + r.val < 192 := by have := m.isLt; have := r.isLt; omega

theorem colLt (n j : Fin 2) (l : Fin 128) : 256 * n.val + (128 * j.val + l.val) < 512 := by
  have := n.isLt; have := j.isLt; have := l.isLt; omega

theorem wsLt (i : grid0.Coords) (n j : Fin 2) : 4 * (i 0).val + 2 * n.val + j.val < 64 := by
  have := n.isLt; have := j.isLt; have : (i 0).val < 16 := (i 0).isLt; omega

theorem partY_apply (w2 : Vec Ideal S7168x512 .fp8e4m3) (c4 : Vec Ideal S192x7168 .fp8e4m3) (n m j : Fin 2) (g : Fin 56)
    (r : Fin 96) (l : Fin 128) :
    partY (F := Ideal) w2 c4 n m g.val (ix2 r ⟨128 * j.val + l.val, by have := j.isLt; have := l.isLt; omega⟩)
      = ∑ k : Fin 128, c4 (ix2 ⟨96 * m.val + r.val, rowLt m r⟩ (gcol g k))
          * w2 (ix2 (gcol g k) ⟨256 * n.val + (128 * j.val + l.val), colLt n j l⟩) := by
  have hg : 128 * (g.val % 56) = g.val * 128 := by rw [Nat.mod_eq_of_lt g.isLt, mul_comm]
  unfold partY ccR wwR gcol
  pointwise
  simp only [hg]

theorem wsG_apply (w0 : Vec Ideal S56x64 .f32) (i : grid0.Coords) (g : Fin 56) (n j : Fin 2) :
    wsG (F := Ideal) w0 i g.val n j = w0 (ix2 g ⟨4 * (i 0).val + 2 * n.val + j.val, wsLt i n j⟩) := by
  unfold wsG
  refine congrArg w0 (Shape.idx_ext₂ ?_ ?_)
  · show g.val % 56 + 1 * 0 = g.val
    have := g.isLt
    omega
  · show k0_off1 i (BitVec.ofNat 32 (2 * n.val)) (BitVec.ofNat 32 j.val) 1 + 1 * 0 = 4 * (i 0).val + 2 * n.val + j.val
    have hi : (i 0).val < 16 := (i 0).isLt
    have hn := n.isLt
    have hj := j.isLt
    show (Scalar.addi (Scalar.addi (Scalar.muli (BitVec.ofNat 32 (i 0).val) 4#32) (BitVec.ofNat 32 (2 * n.val)))
      (BitVec.ofNat 32 j.val)).toNat + 1 * 0 = _
    simp only [Scalar.addi, Scalar.muli, IntOp.addi, IntOp.muli, BitVec.toNat_add, BitVec.toNat_mul, BitVec.toNat_ofNat]
    omega

theorem slice_apply (u : FVec Ideal S96x256 .f32) (j : Fin 2) (r : Fin 96) (l : Fin 128) :
    extractStridedSlice S96x128 ![0, 128 * j.val] u (slices_half j) (ix2 r l)
      = u (ix2 r ⟨128 * j.val + l.val, by have := j.isLt; have := l.isLt; omega⟩) := by
  pointwise

theorem cast_dropUnit (u : FVec Ideal S1x96x128 .f32) (r : Fin 96) (l : Fin 128) :
    shapeCast S96x128 u shapeCasts_S1x96x128_S96x128 (ix2 r l) = u (ix3 0 r l) := by pointwise

theorem ldS_apply (s6 : Vec Ideal S56x192x128 .f32) (m : Fin 2) (g : Fin 56) (r : Fin 96) (l : Fin 128) :
    View.ld s6 (ssR m g.val) (ix3 0 r l) = s6 (ix3 g ⟨96 * m.val + r.val, rowLt m r⟩ l) := by
  refine congrArg s6 (funext fun a => Fin.ext ?_)
  fin_cases a
  · show g.val % 56 + 1 * 0 = g.val
    have := g.isLt
    omega
  · show 96 * m.val + 1 * r.val = 96 * m.val + r.val; omega
  · show 0 + 1 * l.val = l.val; omega

theorem castLd_apply (s6 : Vec Ideal S56x192x128 .f32) (m : Fin 2) (k : ℕ) (hk : k < 56) (r : Fin 96) (l : Fin 128) :
    shapeCast S96x128 (View.ld s6 (ssR m k)) shapeCasts_S1x96x128_S96x128 (ix2 r l)
      = s6 (ix3 ⟨k, hk⟩ ⟨96 * m.val + r.val, rowLt m r⟩ l) :=
  (cast_dropUnit (View.ld s6 (ssR m k)) r l).trans (ldS_apply s6 m ⟨k, hk⟩ r l)

theorem scaledSum_apply (a p s : FVec Ideal S96x128 .f32) (w : Ideal .f32) (i : S96x128.Idx) :
    addf a (mulf (mulf p s) (broadcast S96x128 w)) i = a i + p i * s i * w := rfl

/-- What group `g` adds to the result at a row and a column of the point's block. -/
def term (w0 : Vec Ideal S56x64 .f32) (w2 : Vec Ideal S7168x512 .fp8e4m3) (c4 : Vec Ideal S192x7168 .fp8e4m3)
    (sc : Fin 192 → Fin 56 → EReal) (q : Fin 64) (r : Fin 192) (c : Fin 512) (g : Fin 56) : EReal :=
  (∑ k : Fin 128, c4 (ix2 r (gcol g k)) * w2 (ix2 (gcol g k) c)) * sc r g * w0 (ix2 g q)

theorem accY_apply (w0 : Vec Ideal S56x64 .f32) (w2 : Vec Ideal S7168x512 .fp8e4m3) (c4 : Vec Ideal S192x7168 .fp8e4m3)
    (s6 : Vec Ideal S56x192x128 .f32) (sc : Fin 192 → Fin 56 → EReal) (hs : ∀ g r l, s6 (ix3 g r l) = sc r g)
    (i : grid0.Coords) (n m j : Fin 2) (r : Fin 96) (l : Fin 128) : ∀ k (hk : k ≤ 56),
    accY (F := Ideal) w0 w2 c4 s6 i n m j k (ix2 r l)
      = ∑ g : Fin k, term w0 w2 c4 sc ⟨4 * (i 0).val + 2 * n.val + j.val, wsLt i n j⟩ ⟨96 * m.val + r.val, rowLt m r⟩
          ⟨256 * n.val + (128 * j.val + l.val), colLt n j l⟩ ⟨g.val, lt_of_lt_of_le g.isLt hk⟩
  | 0, _ => by
    rw [Fin.sum_univ_zero]
    exact Ideal.ofBits_zero_f32
  | k + 1, hk => by
    rw [Fin.sum_univ_castSucc]
    have ih := accY_apply w0 w2 c4 s6 sc hs i n m j r l k (by omega)
    rw [accY, scaledSum_apply, ih, slice_apply, castLd_apply s6 m k (by omega), hs,
      partY_apply w2 c4 n m j ⟨k, by omega⟩ r l, wsG_apply w0 i ⟨k, by omega⟩ n j]
    rfl

/-- The point's block of the result: the sum over all groups. -/
theorem yBlk_apply (w0 : Vec Ideal S56x64 .f32) (w2 : Vec Ideal S7168x512 .fp8e4m3) (c4 : Vec Ideal S192x7168 .fp8e4m3)
    (s6 : Vec Ideal S56x192x128 .f32) (sc : Fin 192 → Fin 56 → EReal) (hs : ∀ g r l, s6 (ix3 g r l) = sc r g)
    (i : grid0.Coords) (r : Fin 192) (c : Fin 512) :
    yBlk (F := Ideal) w0 w2 c4 s6 i (ix2 r c)
      = ∑ g : Fin 56, term w0 w2 c4 sc
          ⟨4 * (i 0).val + c.val / 128, by have : (i 0).val < 16 := (i 0).isLt; have := c.isLt; omega⟩ r c g := by
  refine View.canon_apply_of_pieces (fun y : S192x512.Idx => ∑ g : Fin 56, term w0 w2 c4 sc
    ⟨4 * (i 0).val + (y 1).val / 128, by
      have : (i 0).val < 16 := (i 0).isLt; have : (y 1).val < 512 := (y 1).isLt; omega⟩ (y 0) (y 1) g) _ ?_ _
    (yPieces_cover w0 w2 c4 s6 i _)
  have key : ∀ n m j : Fin 2, ∀ y : (yyR n m j).shape.Idx, (yPiece w0 w2 c4 s6 i n m j).2 y
      = (fun y : S192x512.Idx => ∑ g : Fin 56, term w0 w2 c4 sc
          ⟨4 * (i 0).val + (y 1).val / 128, by
            have : (i 0).val < 16 := (i 0).isLt; have : (y 1).val < 512 := (y 1).isLt; omega⟩ (y 0) (y 1) g)
        ((yyR n m j).emb y) := by
    intro n m j y
    obtain ⟨r, l, rfl⟩ : ∃ (r : Fin 96) (l : Fin 128), y = ix2 r l := ⟨y 0, y 1, eq_ix2 (n0 := 96) (n1 := 128) y⟩
    have he : (yyR n m j).emb (ix2 r l)
        = ix2 ⟨96 * m.val + r.val, rowLt m r⟩ ⟨256 * n.val + (128 * j.val + l.val), colLt n j l⟩ := by
      refine Shape.idx_ext₂ ?_ ?_
      · show 96 * m.val + 1 * r.val = 96 * m.val + r.val; omega
      · show 256 * n.val + 128 * j.val + 1 * l.val = 256 * n.val + (128 * j.val + l.val); omega
    have hq : 4 * (i 0).val + 2 * n.val + j.val = 4 * (i 0).val + (256 * n.val + (128 * j.val + l.val)) / 128 := by
      have := l.isLt
      omega
    have hv : (yPiece w0 w2 c4 s6 i n m j).2 (ix2 r l) = accY (F := Ideal) w0 w2 c4 s6 i n m j 56 (ix2 r l) := rfl
    have hf : (⟨4 * (i 0).val + 2 * n.val + j.val, wsLt i n j⟩ : Fin 64)
        = ⟨4 * (i 0).val + (256 * n.val + (128 * j.val + l.val)) / 128, by rw [← hq]; exact wsLt i n j⟩ := Fin.ext hq
    rw [hv, accY_apply w0 w2 c4 s6 sc hs i n m j r l 56 le_rfl, he, hf]
    rfl
  intro p hp
  unfold yPieces at hp
  simp only [List.mem_cons, List.not_mem_nil, or_false] at hp
  rcases hp with rfl | rfl | rfl | rfl | rfl | rfl | rfl | rfl <;> exact key _ _ _

end Cert.KernelIdeal.Gen

end
-- ==== Proof.RVal.lean ====
module

public import proofs.«01_k».proof.Proof.Gen.ReferenceIdeal.Value
public import proofs.«01_k».proof.Proof.Scale
public import proofs.«01_k».proof.Pre_normal_scales

@[expose] public section

/-! # The reference's results, element by element

Over the extended reals, what the reference computes at an index, in the same scalar functions as the kernel's blocks
are read in; and what the precondition says of a group's largest magnitude. -/

set_option maxRecDepth 16384

noncomputable section

namespace Cert.ReferenceIdeal.Gen

open Idealize.ShloMosaic Cert.Fp8

theorem pay2_apply (v : Vec Ideal S192x1x7168 .bf16) (r : Fin 192) (g : Fin 56) (k : Fin 128) :
    k0_pay2 v (ix3 r g k) = v (ix3 r 0 (gcol g k)) := by
  pointwise [k0_pay2]
  rfl

/-- The largest magnitude of a row's group. -/
def gmax (v : Vec Ideal S192x1x7168 .bf16) (r : Fin 192) (g : Fin 56) : EReal := amax fun k => v (ix3 r 0 (gcol g k))

/-- The exponents, over the largest magnitudes `am` and the powers of two `P`. -/
def expOf (am : FVec Ideal S192x56 .f32) (P : FVec Ideal S1x1x277 .f32) : FVec Ideal S192x56 .f32 :=
  select (cmpf .oeq am (broadcast S192x56 (Scalar.ofBits .f32 0x00000000#32)))
    (broadcast S192x56 (Scalar.ofBits .f32 0x00000000#32))
    (subf (multiReduction .add [2] S192x56
        (select (cmpf .ole (broadcastTo S192x56x277 P broadcasts_S1x1x277_S192x56x277)
            (broadcastTo S192x56x277 (shapeCast S192x56x1 (mulf am (broadcast S192x56 (Scalar.ofBits .f32 0x3B124925#32)))
              shapeCasts_S192x56_S192x56x1) broadcasts_S192x56x1_S192x56x277))
          (broadcast S192x56x277 (Scalar.ofBits .f32 0x3F800000#32)) (broadcast S192x56x277 (Scalar.ofBits .f32 0x00000000#32)))
        0x00000000#32 reduces_S192x56x277_S192x56 (.inl rfl) rfl)
      (broadcast S192x56 (Scalar.ofBits .f32 0x43150000#32)))

/-- The largest magnitudes, over the activations by groups. -/
def amaxOf (p : FVec Ideal S192x56x128 .f32) : FVec Ideal S192x56 .f32 :=
  multiReduction .maximumf [2] S192x56 (absf p) 0xFF800000#32 reduces_S192x56x128_S192x56 (.inl rfl) rfl

/-- The powers of two the reference compares with. -/
def powers : FVec Ideal S1x1x277 .f32 :=
  exp2 (sitofp .f32 (subi (iota .tc S1x1x277 32 [2] iota_S1x1x277_d2_w32) (broadcast S1x1x277 149#32)))

/-- The codes, over the activations by groups and the inverse scales. -/
def codesOf (p : FVec Ideal S192x56x128 .f32) (i : FVec Ideal S192x56 .f32) : FVec Ideal S192x56x128 .fp8e4m3 :=
  truncf .fp8e4m3 (minimumf (broadcast S192x56x128 (Scalar.ofBits .f32 0x43E00000#32))
    (maximumf (broadcast S192x56x128 (Scalar.ofBits .f32 0xC3E00000#32))
      (mulf p (broadcastTo S192x56x128 (shapeCast S192x56x1 i shapeCasts_S192x56_S192x56x1)
        broadcasts_S192x56x1_S192x56x128)))) bitsLt_fp8e4m3_f32

/-- The inverse scales, over the exponents. -/
def invOf (e : FVec Ideal S192x56 .f32) : FVec Ideal S192x56 .f32 :=
  exp2 (subf (broadcast S192x56 (Scalar.ofBits .f32 0x00000000#32)) e)

theorem amaxOf_apply (p : FVec Ideal S192x56x128 .f32) (r : Fin 192) (g : Fin 56) :
    amaxOf p (ix2 r g) = amax fun k => p (ix3 r g k) := by
  unfold amaxOf amax
  pointwise
  simp only [fabsf]

theorem powers_apply (k : Fin 277) :
    powers (ix3 0 0 k) = Ideal.exp2 (((IntOp.subi (BitVec.ofNat 32 k.val) 149#32).toInt : ℝ) : EReal) := by
  unfold powers
  pointwise
  rw [fexp2, fsitofp]

theorem expOf_apply (am : FVec Ideal S192x56 .f32) (P : FVec Ideal S1x1x277 .f32) (r : Fin 192) (g : Fin 56) :
    expOf am P (ix2 r g) = if am (ix2 r g) = 0 then 0 else
      (∑ k : Fin 277, if P (ix3 0 0 k) ≤ am (ix2 r g) * Ideal.ofBits .f32 0x3B124925#32 then (1 : EReal) else 0)
        - Ideal.ofBits .f32 0x43150000#32 := by
  unfold expOf
  pointwise

theorem codesOf_apply (p : FVec Ideal S192x56x128 .f32) (i : FVec Ideal S192x56 .f32) (r : Fin 192) (g : Fin 56)
    (k : Fin 128) : codesOf p i (ix3 r g k) = clip (p (ix3 r g k) * i (ix2 r g)) := by
  unfold codesOf clip
  pointwise

theorem invOf_apply (e : FVec Ideal S192x56 .f32) (j : S192x56.Idx) : invOf e j = Ideal.exp2 (0 - e j) := by
  unfold invOf
  pointwise
  rw [fexp2]

theorem exp2_at (e : FVec Ideal S192x56 .f32) (j : S192x56.Idx) : exp2 e j = Ideal.exp2 (e j) := (rfl)

theorem pay3_eq (v : Vec Ideal S192x1x7168 .bf16) : k0_pay3 v = expOf (amaxOf (k0_pay2 v)) powers := rfl
theorem pay4_eq (v : Vec Ideal S192x1x7168 .bf16) : k0_pay4 v = exp2 (k0_pay3 v) := rfl
theorem pay5_eq (v : Vec Ideal S192x1x7168 .bf16) : k0_pay5 v = codesOf (k0_pay2 v) (invOf (k0_pay3 v)) := rfl

theorem pay3_apply (v : Vec Ideal S192x1x7168 .bf16) (r : Fin 192) (g : Fin 56) :
    k0_pay3 v (ix2 r g) = rExp (gmax v r g) := by
  rw [pay3_eq, expOf_apply, amaxOf_apply]
  unfold rExp scaled gmax
  simp only [select_cmp_oeq, select_cmp_ole, powers_apply, pay2_apply]

/-- A scale. -/
theorem pay4_apply (v : Vec Ideal S192x1x7168 .bf16) (r : Fin 192) (g : Fin 56) :
    k0_pay4 v (ix2 r g) = rScale (gmax v r g) := by
  unfold rScale
  rw [pay4_eq, exp2_at, pay3_apply]

/-- A code. -/
theorem pay5_apply (v : Vec Ideal S192x1x7168 .bf16) (r : Fin 192) (g : Fin 56) (k : Fin 128) :
    k0_pay5 v (ix3 r g k) = clip (v (ix3 r 0 (gcol g k)) * rInv (gmax v r g)) := by
  unfold rInv
  rw [pay5_eq, codesOf_apply, invOf_apply, pay3_apply, pay2_apply]

theorem castCodes_apply (c : FVec Ideal S192x56x128 .fp8e4m3) (r : Fin 192) (g : Fin 56) (k : Fin 128) :
    shapeCast S192x7168 c shapeCasts_S192x56x128_S192x7168 (ix2 r (gcol g k)) = c (ix3 r g k) := by
  have hg : (g.val * 128 + k.val) / 128 = g.val := by have := k.isLt; omega
  have hk : (g.val * 128 + k.val) % 128 = k.val := by have := k.isLt; omega
  unfold gcol
  pointwise

theorem pay6_eq (v : Vec Ideal S192x1x7168 .bf16) :
    k0_pay6 v = shapeCast S192x7168 (k0_pay5 v) shapeCasts_S192x56x128_S192x7168 := rfl

/-- The codes as stored. -/
theorem pay6_apply (v : Vec Ideal S192x1x7168 .bf16) (r : Fin 192) (g : Fin 56) (k : Fin 128) :
    k0_pay6 v (ix2 r (gcol g k)) = k0_pay5 v (ix3 r g k) := by
  rw [pay6_eq, castCodes_apply]

/-- The result. -/
theorem pay1_apply (s : FVec Ideal S192x56 .f32) (c : FVec Ideal S192x56x128 .fp8e4m3) (w : Vec Ideal S7168x8192 .fp8e4m3)
    (ws : Vec Ideal S56x64 .f32) (r : Fin 192) (q : Fin 8192) :
    k0_pay1 s c w ws (ix2 r q)
      = ∑ g : Fin 56, (∑ k : Fin 128, c (ix3 r g k) * w (ix2 (gcol g k) q)) * s (ix2 r g)
          * ws (ix2 g ⟨q.val / 128, by omega⟩) := by
  pointwise [k0_pay1]
  rfl

/-- The precondition, of one group. -/
theorem fine_of_pre [Cert.Pre_normal_scales.Facts] (v : Vec Ideal S192x1x7168 .bf16) (w : Vec Ideal S7168x8192 .fp8e4m3)
    (ws : Vec Ideal S56x64 .f32) (h : Cert.Pre_normal_scales.fn (F := Ideal) v w ws = fun _ => 1#1)
    (r : Fin 192) (g : Fin 56) : Fine (gmax v r g) := by
  have h := congrFun h (ix2 r g)
  pointwise [Cert.Pre_normal_scales.fn] at h
  simp only [fabsf] at h
  exact fine_of_bits _ h

/-! ## The three results -/

open Cert.ReferenceIdeal.Value (G3 G4 G5)

theorem ld_x (v : Vec Ideal S192x1x7168 .bf16) : View.ld v r0_0 = v := by
  funext j
  refine congrArg v (funext fun a => Fin.ext ?_)
  fin_cases a
  · show 0 + 1 * (j 0).val = (j 0).val; omega
  · show 0 + 1 * (j 1).val = (j 1).val; omega
  · show 0 + 1 * (j 2).val = (j 2).val; omega

theorem G5_apply (v : Vec Ideal S192x1x7168 .bf16) (w : Vec Ideal S7168x8192 .fp8e4m3) (ws : Vec Ideal S56x64 .f32)
    (r : Fin 192) (g : Fin 56) : G5 (F := Ideal) v w ws (ix2 r g) = rScale (gmax v r g) := by
  show k0_pay7 v w ws (ix2 r g) = _
  unfold k0_pay7
  rw [ld_x, pay4_apply]

theorem G4_apply (v : Vec Ideal S192x1x7168 .bf16) (w : Vec Ideal S7168x8192 .fp8e4m3) (ws : Vec Ideal S56x64 .f32)
    (r : Fin 192) (g : Fin 56) (k : Fin 128) :
    G4 (F := Ideal) v w ws (ix2 r (gcol g k)) = clip (v (ix3 r 0 (gcol g k)) * rInv (gmax v r g)) := by
  show k0_pay6 v (ix2 r (gcol g k)) = _
  rw [pay6_apply, pay5_apply]

theorem G3_apply (v : Vec Ideal S192x1x7168 .bf16) (w : Vec Ideal S7168x8192 .fp8e4m3) (ws : Vec Ideal S56x64 .f32)
    (r : Fin 192) (q : Fin 8192) :
    G3 (F := Ideal) v w ws (ix2 r q)
      = ∑ g : Fin 56, (∑ k : Fin 128, clip (v (ix3 r 0 (gcol g k)) * rInv (gmax v r g)) * w (ix2 (gcol g k) q))
          * rScale (gmax v r g) * ws (ix2 g ⟨q.val / 128, by omega⟩) := by
  show k0_pay1 (k0_pay7 v w ws) (k0_pay5 v) w ws (ix2 r q) = _
  rw [pay1_apply]
  unfold k0_pay7
  simp only [ld_x, pay4_apply, pay5_apply]

end Cert.ReferenceIdeal.Gen

end
-- ==== Proof.KArr.lean ====
module

public import proofs.«01_k».proof.Proof.KRun
public import proofs.«01_k».proof.Proof.KVal
public import proofs.«01_k».proof.Proof.RVal

@[expose] public section

/-! # The kernel's three arrays after the run, and that they are the reference's -/

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window)
open Cert.Fp8

/-! ## Where the blocks lie -/

theorem coords_val : ∀ t : Fin cfg0.N, (grid0.coords t 0).val = t.val :=
  (by decide +kernel : ∀ t : Fin grid0.N, _)
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)

theorem lt16 (t : Fin cfg0.N) : t.val < 16 := lt_of_lt_of_eq t.isLt (show cfg0.N = 16 from N_0)

/-- Column `c` of the block at point `t`, as a column of the whole. -/
abbrev wcol (t : Fin cfg0.N) (c : Fin 512) : Fin 8192 := ⟨t.val * 512 + c.val, by have := lt16 t; omega⟩

theorem emb0 (t : Fin cfg0.N) (j : S56x64.Idx) : ((cfg0.win 0).blk t).view.emb j = j := by
  obtain ⟨e0, e1⟩ := idx0 t
  funext a; apply Fin.ext
  match a with
  | ⟨0, _⟩ => show win0_0.index t (0 : Fin 2) * 56 + 1 * (j 0).val = (j 0).val; omega
  | ⟨1, _⟩ => show win0_0.index t (1 : Fin 2) * 64 + 1 * (j 1).val = (j 1).val; omega

theorem emb1 (t : Fin cfg0.N) (j : S192x7168.Idx) : ((cfg0.win 1).blk t).view.emb j = j := by
  obtain ⟨e0, e1⟩ := idx1 t
  funext a; apply Fin.ext
  match a with
  | ⟨0, _⟩ => show win0_1.index t (0 : Fin 2) * 192 + 1 * (j 0).val = (j 0).val; omega
  | ⟨1, _⟩ => show win0_1.index t (1 : Fin 2) * 7168 + 1 * (j 1).val = (j 1).val; omega

/-- Window 2's block at point `t` holds columns `512 t` onwards of the weights. -/
theorem emb2 (t : Fin cfg0.N) (k : Fin 7168) (c : Fin 512) :
    ((cfg0.win 2).blk t).view.emb (ix2 k c : S7168x512.Idx) = (ix2 k (wcol t c) : S7168x8192.Idx) := by
  obtain ⟨e0, e1⟩ := idx2 t
  funext a; apply Fin.ext
  match a with
  | ⟨0, _⟩ => show win0_2.index t (0 : Fin 2) * 7168 + 1 * k.val = k.val; omega
  | ⟨1, _⟩ => show win0_2.index t (1 : Fin 2) * 512 + 1 * c.val = t.val * 512 + c.val; omega

/-- Window 3's block at point `t` holds columns `512 t` onwards of the result. -/
theorem emb3 (t : Fin cfg0.N) (r : Fin 192) (c : Fin 512) :
    ((cfg0.win 3).blk t).view.emb (ix2 r c : S192x512.Idx) = (ix2 r (wcol t c) : S192x8192.Idx) := by
  obtain ⟨e0, e1⟩ := idx3 t
  funext a; apply Fin.ext
  match a with
  | ⟨0, _⟩ => show win0_3.index t (0 : Fin 2) * 192 + 1 * r.val = r.val; omega
  | ⟨1, _⟩ => show win0_3.index t (1 : Fin 2) * 512 + 1 * c.val = t.val * 512 + c.val; omega

theorem emb4 (t : Fin cfg0.N) (j : S192x7168.Idx) : ((cfg0.win 4).blk t).view.emb j = j := by
  obtain ⟨e0, e1⟩ := idx4 t
  funext a; apply Fin.ext
  match a with
  | ⟨0, _⟩ => show win0_4.index t (0 : Fin 2) * 192 + 1 * (j 0).val = (j 0).val; omega
  | ⟨1, _⟩ => show win0_4.index t (1 : Fin 2) * 7168 + 1 * (j 1).val = (j 1).val; omega

theorem emb5 (t : Fin cfg0.N) (j : S192x56.Idx) : ((cfg0.win 5).blk t).view.emb j = j := by
  obtain ⟨e0, e1⟩ := idx5 t
  funext a; apply Fin.ext
  match a with
  | ⟨0, _⟩ => show win0_5.index t (0 : Fin 2) * 192 + 1 * (j 0).val = (j 0).val; omega
  | ⟨1, _⟩ => show win0_5.index t (1 : Fin 2) * 56 + 1 * (j 1).val = (j 1).val; omega

variable (m : (ℓ : Loc nD τ sig) → Buf (Elt Ideal) ℓ)

/-- The three argument arrays. -/
abbrev a0 (c : Dev nD) : Vec Ideal S192x1x7168 .bf16 := m ((c : Thread nD τ).loc main_arg0)
abbrev a1 (c : Dev nD) : Vec Ideal S7168x8192 .fp8e4m3 := m ((c : Thread nD τ).loc main_arg1)
abbrev a2 (c : Dev nD) : Vec Ideal S56x64 .f32 := m ((c : Thread nD τ).loc main_arg2)

/-- What the host hands the kernel for its activations: the argument with its unit axis dropped. -/
theorem V_main_v0 (c : Dev nD) :
    V m c main_v0 = (shapeCast S192x7168 (a0 m c) shapeCasts_S192x1x7168_S192x7168 : Vec Ideal S192x7168 .bf16) := by
  show StableHlo.after hostOps0 (fun b => m (c, b)) (Proc.devRef .tc main_v0) = _
  rw [StableHlo.after_cons, StableHlo.after_nil, StableHlo.reshape_result']
  rfl

theorem dropUnit (v : Vec Ideal S192x1x7168 .bf16) (r : Fin 192) (k : Fin 7168) :
    (shapeCast S192x7168 v shapeCasts_S192x1x7168_S192x7168 : Vec Ideal S192x7168 .bf16) (ix2 r k) = v (ix3 r 0 k) := by
  pointwise

/-- The activations as every point holds them. -/
def xin (c : Dev nD) : Vec Ideal S192x7168 .bf16 := shapeCast S192x7168 (a0 m c) shapeCasts_S192x1x7168_S192x7168

theorem xin_apply (c : Dev nD) (r : Fin 192) (k : Fin 7168) : xin m c (ix2 r k) = a0 m c (ix3 r 0 k) := dropUnit _ r k

theorem gmax_xin (c : Dev nD) (r : Fin 192) (g : Fin 56) :
    gmax (xin m c) r g = Cert.ReferenceIdeal.Gen.gmax (a0 m c) r g := by
  unfold gmax Cert.ReferenceIdeal.Gen.gmax
  simp only [xin_apply]

theorem iblk0_eq (c : Dev nD) (t : Fin cfg0.N) : iblk m c 0 t = a2 m c := by
  funext j
  show V m c main_arg2 (((cfg0.win 0).blk t).view.emb j) = _
  rw [emb0, V_main_arg2]

theorem iblk1_eq (c : Dev nD) (t : Fin cfg0.N) : iblk m c 1 t = xin m c := by
  funext j
  show V m c main_v0 (((cfg0.win 1).blk t).view.emb j) = _
  rw [emb1, V_main_v0]
  rfl

theorem iblk2_apply (c : Dev nD) (t : Fin cfg0.N) (k : Fin 7168) (q : Fin 512) :
    (iblk m c 2 t : Vec Ideal S7168x512 .fp8e4m3) (ix2 k q) = a1 m c (ix2 k (wcol t q)) := by
  show V m c main_arg1 (((cfg0.win 2).blk t).view.emb (ix2 k q : S7168x512.Idx)) = _
  rw [emb2, V_main_arg1]

/-! ## Each array as the reference has it -/

open Cert.ReferenceIdeal.Value (G3 G4 G5)

/-- Every group of the activations has a power of two the kernel's arithmetic keeps. -/
def AllFine (c : Dev nD) : Prop := ∀ r g, Fine (Cert.ReferenceIdeal.Gen.gmax (a0 m c) r g)

/-- The block a point computes is the reference's result at the block's columns. -/
theorem term_eq (c : Dev nD) (hf : AllFine m c) (t : Fin cfg0.N) (w2 : Vec Ideal S7168x512 .fp8e4m3)
    (hw : ∀ k q, w2 (ix2 k q) = a1 m c (ix2 k (wcol t q))) (i : grid0.Coords) (hi : (i 0).val = t.val)
    (r : Fin 192) (q : Fin 512) :
    yBlk (F := Ideal) (a2 m c) w2 (codesAll (xin m c)) (xsAll (xin m c)) i (ix2 r q)
      = G3 (F := Ideal) (a0 m c) (a1 m c) (a2 m c) (ix2 r (wcol t q)) := by
  obtain ⟨sc, hsc⟩ : ∃ sc : Fin 192 → Fin 56 → EReal, ∀ r g, sc r g = kScale (gmax (xin m c) r g) := ⟨_, fun _ _ => rfl⟩
  rw [yBlk_apply (a2 m c) w2 (codesAll (xin m c)) (xsAll (xin m c)) sc
    (fun g r l => (xsAll_apply (xin m c) g r l).trans (hsc r g).symm) i r q, Cert.ReferenceIdeal.Gen.G3_apply]
  refine Finset.sum_congr rfl fun g _ => ?_
  unfold term
  have e : (⟨4 * (i 0).val + q.val / 128, by have := lt16 t; omega⟩ : Fin 64)
      = ⟨(wcol t q).val / 128, by have := (wcol t q).isLt; omega⟩ := by
    apply Fin.ext
    show 4 * (i 0).val + q.val / 128 = (t.val * 512 + q.val) / 128
    omega
  have hs : (∑ k : Fin 128, codesAll (F := Ideal) (xin m c) (ix2 r (gcol g k)) * w2 (ix2 (gcol g k) q))
      = ∑ k : Fin 128, clip (a0 m c (ix3 r 0 (gcol g k)) * rInv (Cert.ReferenceIdeal.Gen.gmax (a0 m c) r g))
          * a1 m c (ix2 (gcol g k) (wcol t q)) :=
    Finset.sum_congr rfl fun k _ => by
      rw [codesAll_apply, grp_gcol, gmax_xin, kInv_eq (hf r g), xin_apply, hw]
  rw [hs, e, hsc, gmax_xin, kScale_eq (hf r g)]

/-- The codes the first point leaves are the reference's. -/
theorem codes_eq (c : Dev nD) (hf : AllFine m c) (y : S192x7168.Idx) :
    codesAll (F := Ideal) (xin m c) y = G4 (F := Ideal) (a0 m c) (a1 m c) (a2 m c) y := by
  obtain ⟨r, k, rfl⟩ : ∃ (r : Fin 192) (k : Fin 7168), y = ix2 r k := ⟨y 0, y 1, eq_ix2 y⟩
  obtain ⟨g, l, rfl⟩ : ∃ (g : Fin 56) (l : Fin 128), k = gcol g l :=
    ⟨⟨k.val / 128, by omega⟩, ⟨k.val % 128, by omega⟩, by apply Fin.ext; show k.val = k.val / 128 * 128 + k.val % 128; omega⟩
  rw [codesAll_apply, grp_gcol, gmax_xin, kInv_eq (hf r g), xin_apply, Cert.ReferenceIdeal.Gen.G4_apply]

/-- The scales the first point leaves are the reference's. -/
theorem scale_eq (c : Dev nD) (hf : AllFine m c) (y : S192x56.Idx) :
    scaleAll (F := Ideal) (xin m c) y = G5 (F := Ideal) (a0 m c) (a1 m c) (a2 m c) y := by
  obtain ⟨r, g, rfl⟩ : ∃ (r : Fin 192) (g : Fin 56), y = ix2 r g := ⟨y 0, y 1, eq_ix2 y⟩
  rw [scaleAll_apply, gmax_xin, kScale_eq (hf r g), Cert.ReferenceIdeal.Gen.G5_apply]

/-! ## The arrays after the run -/

theorem flushed3_eq (c : Dev nD) (hf : AllFine m c) (t : Fin cfg0.N) :
    (dats m 0 c).flushed 3 t = ((cfg0.win 3).blk t).view.read (Elt Ideal) (G3 (F := Ideal) (a0 m c) (a1 m c) (a2 m c)) := by
  have key : ∀ j : S192x512.Idx, ((dats m 0 c).after 3 t : Vec Ideal S192x512 .bf16) j
      = G3 (F := Ideal) (a0 m c) (a1 m c) (a2 m c) (((cfg0.win 3).blk t).view.emb j) := by
    intro j
    obtain ⟨r, q, rfl⟩ : ∃ (r : Fin 192) (q : Fin 512), j = ix2 r q := ⟨j 0, j 1, eq_ix2 j⟩
    rw [after_3, emb3, iblk0_eq, iblk1_eq]
    exact term_eq m c hf t _ (iblk2_apply m c t) _ (coords_val t) r q
  funext j
  exact key j

/-- Every index of the result lies in the block of the point its column belongs to. -/
theorem covered3 (i : S192x8192.Idx) :
    ∃ t : Fin cfg0.N, (cfg0.win 3).flush t = true ∧ i ∈ ((cfg0.win 3).blk t).view.set := by
  obtain ⟨r, q, rfl⟩ : ∃ (r : Fin 192) (q : Fin 8192), i = ix2 r q := ⟨i 0, i 1, eq_ix2 i⟩
  have ht : q.val / 512 < cfg0.N := by
    rw [show cfg0.N = 16 from N_0]
    omega
  refine ⟨⟨q.val / 512, ht⟩, flush0_3 _, ?_⟩
  have h := ((cfg0.win 3).blk (⟨q.val / 512, ht⟩ : Fin cfg0.N)).view.emb_mem_set
    (ix2 r ⟨q.val % 512, by omega⟩ : S192x512.Idx)
  rw [emb3] at h
  have e : wcol ⟨q.val / 512, ht⟩ ⟨q.val % 512, by omega⟩ = q := by
    apply Fin.ext
    show q.val / 512 * 512 + q.val % 512 = q.val
    omega
  rwa [e] at h

/-- The result array after the run. -/
theorem final3 (c : Dev nD) (hf : AllFine m c) :
    (dats m 0 c).arrAt 3 cfg0.N = G3 (F := Ideal) (a0 m c) (a1 m c) (a2 m c) :=
  (dats m 0 c).arrAt_eq_of_cover 3 (G3 (F := Ideal) (a0 m c) (a1 m c) (a2 m c)) (fun t _ => flushed3_eq m c hf t) covered3

/-- The last point writes the codes and the scales back. -/
theorem last4 : (cfg0.win 4).flush t0_15 = true := (flush0_4 t0_15).mpr rfl
theorem last5 : (cfg0.win 5).flush t0_15 = true := (flush0_5 t0_15).mpr rfl

theorem flushed4_eq (c : Dev nD) (hf : AllFine m c) (t : Fin cfg0.N) :
    (dats m 0 c).flushed 4 t = ((cfg0.win 4).blk t).view.read (Elt Ideal) (G4 (F := Ideal) (a0 m c) (a1 m c) (a2 m c)) := by
  have key : ∀ j : S192x7168.Idx, ((dats m 0 c).after 4 t : Vec Ideal S192x7168 .fp8e4m3) j
      = G4 (F := Ideal) (a0 m c) (a1 m c) (a2 m c) (((cfg0.win 4).blk t).view.emb j) := by
    intro j
    rw [after_4, emb4, iblk1_eq]
    exact codes_eq m c hf j
  funext j
  exact key j

theorem covered4 (i : S192x7168.Idx) :
    ∃ t : Fin cfg0.N, (cfg0.win 4).flush t = true ∧ i ∈ ((cfg0.win 4).blk t).view.set :=
  ⟨t0_15, last4, by have h := ((cfg0.win 4).blk t0_15).view.emb_mem_set i; rwa [emb4] at h⟩

/-- The array of codes after the run. -/
theorem final4 (c : Dev nD) (hf : AllFine m c) :
    (dats m 0 c).arrAt 4 cfg0.N = G4 (F := Ideal) (a0 m c) (a1 m c) (a2 m c) :=
  (dats m 0 c).arrAt_eq_of_cover 4 (G4 (F := Ideal) (a0 m c) (a1 m c) (a2 m c)) (fun t _ => flushed4_eq m c hf t) covered4

theorem flushed5_eq (c : Dev nD) (hf : AllFine m c) (t : Fin cfg0.N) :
    (dats m 0 c).flushed 5 t = ((cfg0.win 5).blk t).view.read (Elt Ideal) (G5 (F := Ideal) (a0 m c) (a1 m c) (a2 m c)) := by
  have key : ∀ j : S192x56.Idx, ((dats m 0 c).after 5 t : Vec Ideal S192x56 .f32) j
      = G5 (F := Ideal) (a0 m c) (a1 m c) (a2 m c) (((cfg0.win 5).blk t).view.emb j) := by
    intro j
    rw [after_5, emb5, iblk1_eq]
    exact scale_eq m c hf j
  funext j
  exact key j

theorem covered5 (i : S192x56.Idx) :
    ∃ t : Fin cfg0.N, (cfg0.win 5).flush t = true ∧ i ∈ ((cfg0.win 5).blk t).view.set :=
  ⟨t0_15, last5, by have h := ((cfg0.win 5).blk t0_15).view.emb_mem_set i; rwa [emb5] at h⟩

/-- The array of scales after the run. -/
theorem final5 (c : Dev nD) (hf : AllFine m c) :
    (dats m 0 c).arrAt 5 cfg0.N = G5 (F := Ideal) (a0 m c) (a1 m c) (a2 m c) :=
  (dats m 0 c).arrAt_eq_of_cover 5 (G5 (F := Ideal) (a0 m c) (a1 m c) (a2 m c)) (fun t _ => flushed5_eq m c hf t) covered5

/-- The run: the three results are the reference's, the arguments are unchanged. -/
theorem run_values (ρ : Dev nD → PrngReg) (hf : ∀ c, AllFine m c) :
    θ_run defs (onTc (τ := τ) (main (F := Ideal))) ⟨m, fun _ => 0, ρ⟩ fun r => ∀ c : Dev nD,
      r.2.mem ((c.tc : Thread nD τ).loc main_v1_0) = G3 (F := Ideal) (a0 m c) (a1 m c) (a2 m c)
      ∧ r.2.mem ((c.tc : Thread nD τ).loc main_v1_1) = G4 (F := Ideal) (a0 m c) (a1 m c) (a2 m c)
      ∧ r.2.mem ((c.tc : Thread nD τ).loc main_v1_2) = G5 (F := Ideal) (a0 m c) (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h.1 c).1 3).trans (final3 m c (hf c)), ((h.1 c).1 4).trans (final4 m c (hf c)), ((h.1 c).1 5).trans (final5 m c (hf c)),
      h.2 c⟩)
    (θ_run_and (run_main m ρ) (unchanged m ρ))

end Cert.KernelIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.BitsRun
public import proofs.«01_k».proof.Proof.KRun
public import proofs.«01_k».proof.Proof.KArr
public import proofs.«01_k».proof.Proof.Gen.Pre_normal_scales
public import Idealize.ShloMosaic.Adequacy
public import Idealize.ShloMosaic.Init

@[expose] public section

noncomputable section

namespace Cert.Proof

open Idealize.ShloMosaic Idealize.SL.Sem Cert.Kernel

/-- The precondition gives every group of the activations a scale inside the kernel's arithmetic. -/
theorem allFine [Cert.Pre_normal_scales.Facts]
    (m : (ℓ : Loc Cert.KernelIdeal.nD Cert.KernelIdeal.τ Cert.KernelIdeal.sig) → Buf (Elt Ideal) ℓ)
    (h : Cert.Pre_KernelIdeal_normal_scales m) (c : Dev Cert.KernelIdeal.nD) : Cert.KernelIdeal.Gen.AllFine m c :=
  fun r g => Cert.ReferenceIdeal.Gen.fine_of_pre _ _ _ (h c) r g

/-- The kernel's three results are the reference's. -/
theorem algebraic : Cert.algebraic_KernelIdeal_ReferenceIdeal_pre_normal_scales
    (hKernelIdeal := Cert.KernelIdeal.Gen.facts) (hReferenceIdeal := Cert.ReferenceIdeal.Gen.facts)
    (hPre_normal_scales := Cert.Pre_normal_scales.Gen.facts) := by
  intro m g m' g' hpre hargs
  refine ⟨fun c => Cert.ReferenceIdeal.Value.G3 (F := Ideal) (Cert.KernelIdeal.Gen.a0 m c) (Cert.KernelIdeal.Gen.a1 m c) (Cert.KernelIdeal.Gen.a2 m c),
    fun c => Cert.ReferenceIdeal.Value.G4 (F := Ideal) (Cert.KernelIdeal.Gen.a0 m c) (Cert.KernelIdeal.Gen.a1 m c) (Cert.KernelIdeal.Gen.a2 m c),
    fun c => Cert.ReferenceIdeal.Value.G5 (F := Ideal) (Cert.KernelIdeal.Gen.a0 m c) (Cert.KernelIdeal.Gen.a1 m c) (Cert.KernelIdeal.Gen.a2 m c),
    Cert.KernelIdeal.Gen.run_values m g (allFine m hpre), ?_⟩
  refine (θ_run _ _ _).mono (fun r h c => ?_) (Cert.ReferenceIdeal.Value.run m' g')
  obtain ⟨e0, e1, e2⟩ := hargs c
  obtain ⟨h3, h4, h5, k0, k1, k2⟩ := h c
  rw [e0, e1, e2] at h3 h4 h5
  exact ⟨h3, h4, h5, k0, k1, k2⟩

/-- All the claims: the frames, the idealization, and the equality of the results over the extended reals. -/
theorem claim : Cert.Claim := ⟨Cert.Kernel.Gen.facts, Cert.KernelIdeal.Gen.facts, Cert.ReferenceIdeal.Gen.facts, Cert.Pre_normal_scales.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
